-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 128]⟩ ⟨2, ![1024, 1024]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 1024]⟩ ⟨2, ![1024, 1024]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 1024]⟩ ⟨2, ![1024, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x128 : Shape := ⟨2, ![1024, 128]⟩
abbrev S128x1024 : Shape := ⟨2, ![128, 1024]⟩
abbrev S1024x384 : Shape := ⟨2, ![1024, 384]⟩
abbrev S1024x256 : Shape := ⟨2, ![1024, 256]⟩
abbrev S7x128x384 : Shape := ⟨3, ![7, 128, 384]⟩
abbrev S7x128x256 : Shape := ⟨3, ![7, 128, 256]⟩
abbrev S7 : Shape := ⟨1, ![7]⟩
abbrev S_ : Shape := ⟨0, ![]⟩
abbrev S128x384 : Shape := ⟨2, ![128, 384]⟩
abbrev S1 : Shape := ⟨1, ![1]⟩
abbrev S1x128x384 : Shape := ⟨3, ![1, 128, 384]⟩
abbrev S128x256 : Shape := ⟨2, ![128, 256]⟩
abbrev S1x128x256 : Shape := ⟨3, ![1, 128, 256]⟩

abbrev nBuf : Space → Nat
  | .hbm => 3
  | .vmem => 9
  | .smem => 0
  | _ => 0

abbrev bufTy : (tb : Table) → Fin (tcTables nBuf tb) → BufTy
  | .hbm, ⟨0, _⟩ => ⟨S1024x128, .f32⟩
  | .hbm, ⟨1, _⟩ => ⟨S128x1024, .f32⟩
  | .hbm, ⟨2, _⟩ => ⟨S128x1024, .f32⟩
  | .local _ .vmem, ⟨0, _⟩ => ⟨S1024x128, .f32⟩
  | .local _ .vmem, ⟨1, _⟩ => ⟨S128x1024, .f32⟩
  | .local _ .vmem, ⟨2, _⟩ => ⟨S128x1024, .f32⟩
  | .local _ .vmem, ⟨3, _⟩ => ⟨S1024x384, .f32⟩
  | .local _ .vmem, ⟨4, _⟩ => ⟨S1024x384, .f32⟩
  | .local _ .vmem, ⟨5, _⟩ => ⟨S1024x256, .f32⟩
  | .local _ .vmem, ⟨6, _⟩ => ⟨S7x128x384, .f32⟩
  | .local _ .vmem, ⟨7, _⟩ => ⟨S7x128x384, .f32⟩
  | .local _ .vmem, ⟨8, _⟩ => ⟨S7x128x256, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  (ofTc nBuf bufTy 1 45 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_2 : BitVec 32 := 1#32
  let v7 : BitVec 32 := Scalar.xori v5 c1_i32_2
  let c1_i32_3 : BitVec 32 := 1#32
  let v8 : BitVec 32 := Scalar.shrsi v7 c1_i32_3
  let c1_i32_4 : BitVec 32 := 1#32
  let v9 : BitVec 32 := Scalar.andi v8 c1_i32_4
  let v10 : BitVec 32 := Scalar.xori v7 v9
  let c1_i32_6 : BitVec 32 := 1#32
  let v11 : BitVec 32 := Scalar.muli v10 c1_i32_6
  let v12 : BitVec 32 := Scalar.addi c0_i32 v11
  v12.toNat
def k0_dev2 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v13 : BitVec 32 := Scalar.xori v5 c2_i32
  let c1_i32_7 : BitVec 32 := 1#32
  let v14 : BitVec 32 := Scalar.shrsi v13 c1_i32_7
  let c1_i32_8 : BitVec 32 := 1#32
  let v15 : BitVec 32 := Scalar.andi v14 c1_i32_8
  let v16 : BitVec 32 := Scalar.xori v13 v15
  let c1_i32_10 : BitVec 32 := 1#32
  let v17 : BitVec 32 := Scalar.muli v16 c1_i32_10
  let v18 : BitVec 32 := Scalar.addi c0_i32_11 v17
  v18.toNat
def k0_dev3 (d0 : Dev nD) : Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32 : BitVec 32 := 4#32
  let v19 : BitVec 32 := Scalar.xori v5 c4_i32
  let c1_i32_12 : BitVec 32 := 1#32
  let v20 : BitVec 32 := Scalar.shrsi v19 c1_i32_12
  let c1_i32_13 : BitVec 32 := 1#32
  let v21 : BitVec 32 := Scalar.andi v20 c1_i32_13
  let v22 : BitVec 32 := Scalar.xori v19 v21
  let c1_i32_15 : BitVec 32 := 1#32
  let v23 : BitVec 32 := Scalar.muli v22 c1_i32_15
  let v24 : BitVec 32 := Scalar.addi c0_i32_16 v23
  v24.toNat
def k0_off1 (d0 : Dev nD) (c4_i32_25 : BitVec 32) (c2_i32_26 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let v37 : BitVec 32 := Scalar.xori v5 c4_i32_25
  let v38 : BitVec 32 := Scalar.xori v37 c2_i32_26
  let c1_i32_27 : BitVec 32 := 1#32
  let v39 : BitVec 32 := Scalar.shrsi v38 c1_i32_27
  let c1_i32_28 : BitVec 32 := 1#32
  let v40 : BitVec 32 := Scalar.andi v39 c1_i32_28
  let v41 : BitVec 32 := Scalar.xori v38 v40
  let c128_i32 : BitVec 32 := 128#32
  let v42 : BitVec 32 := Scalar.muli v41 c128_i32
  let c0_i32_36 : BitVec 32 := 0#32
  ![v42.toNat, 0]
def k0_off1_at (r : Fin 10) : BitVec 32 × BitVec 32 :=
  if r.val < 5 then
    if r.val < 2 then
      if r.val < 1 then
        (4#32, 2#32)
      else
        (4#32, 3#32)
    else
      if r.val < 3 then
        (4#32, 1#32)
      else
        if r.val < 4 then
          (4#32, 0#32)
        else
          (2#32, 1#32)
  else
    if r.val < 7 then
      if r.val < 6 then
        (2#32, 5#32)
      else
        (2#32, 4#32)
    else
      if r.val < 8 then
        (2#32, 0#32)
      else
        if r.val < 9 then
          (1#32, 4#32)
        else
          (1#32, 0#32)
def k0_dev4 (d0 : Dev nD) : Nat :=
  let c0_i32_33 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_22 : BitVec 32 := 4#32
  let v33 : BitVec 32 := Scalar.xori v5 c4_i32_22
  let c1_i32_23 : BitVec 32 := 1#32
  let v34 : BitVec 32 := Scalar.shrsi v33 c1_i32_23
  let c1_i32_24 : BitVec 32 := 1#32
  let v35 : BitVec 32 := Scalar.andi v34 c1_i32_24
  let v36 : BitVec 32 := Scalar.xori v33 v35
  let c1_i32_32 : BitVec 32 := 1#32
  let v43 : BitVec 32 := Scalar.muli v36 c1_i32_32
  let v44 : BitVec 32 := Scalar.addi c0_i32_33 v43
  v44.toNat
def k0_dev5 (d0 : Dev nD) : Nat :=
  let c0_i32_49 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_37 : BitVec 32 := 4#32
  let v52 : BitVec 32 := Scalar.xori v5 c4_i32_37
  let c1_i32_38 : BitVec 32 := 1#32
  let v53 : BitVec 32 := Scalar.shrsi v52 c1_i32_38
  let c1_i32_39 : BitVec 32 := 1#32
  let v54 : BitVec 32 := Scalar.andi v53 c1_i32_39
  let v55 : BitVec 32 := Scalar.xori v52 v54
  let c1_i32_48 : BitVec 32 := 1#32
  let v62 : BitVec 32 := Scalar.muli v55 c1_i32_48
  let v63 : BitVec 32 := Scalar.addi c0_i32_49 v62
  v63.toNat
def k0_dev6 (d0 : Dev nD) : Nat :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_53 : BitVec 32 := 4#32
  let v71 : BitVec 32 := Scalar.xori v5 c4_i32_53
  let c1_i32_54 : BitVec 32 := 1#32
  let v72 : BitVec 32 := Scalar.shrsi v71 c1_i32_54
  let c1_i32_55 : BitVec 32 := 1#32
  let v73 : BitVec 32 := Scalar.andi v72 c1_i32_55
  let v74 : BitVec 32 := Scalar.xori v71 v73
  let c1_i32_64 : BitVec 32 := 1#32
  let v81 : BitVec 32 := Scalar.muli v74 c1_i32_64
  let v82 : BitVec 32 := Scalar.addi c0_i32_65 v81
  v82.toNat
def k0_dev7 (d0 : Dev nD) : Nat :=
  let c0_i32_81 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_69 : BitVec 32 := 4#32
  let v90 : BitVec 32 := Scalar.xori v5 c4_i32_69
  let c1_i32_70 : BitVec 32 := 1#32
  let v91 : BitVec 32 := Scalar.shrsi v90 c1_i32_70
  let c1_i32_71 : BitVec 32 := 1#32
  let v92 : BitVec 32 := Scalar.andi v91 c1_i32_71
  let v93 : BitVec 32 := Scalar.xori v90 v92
  let c1_i32_80 : BitVec 32 := 1#32
  let v100 : BitVec 32 := Scalar.muli v93 c1_i32_80
  let v101 : BitVec 32 := Scalar.addi c0_i32_81 v100
  v101.toNat
def k0_dev8 (d0 : Dev nD) : Nat :=
  let c0_i32_103 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_91 : BitVec 32 := 2#32
  let v117 : BitVec 32 := Scalar.xori v5 c2_i32_91
  let c1_i32_92 : BitVec 32 := 1#32
  let v118 : BitVec 32 := Scalar.shrsi v117 c1_i32_92
  let c1_i32_93 : BitVec 32 := 1#32
  let v119 : BitVec 32 := Scalar.andi v118 c1_i32_93
  let v120 : BitVec 32 := Scalar.xori v117 v119
  let c1_i32_102 : BitVec 32 := 1#32
  let v127 : BitVec 32 := Scalar.muli v120 c1_i32_102
  let v128 : BitVec 32 := Scalar.addi c0_i32_103 v127
  v128.toNat
def k0_dev9 (d0 : Dev nD) : Nat :=
  let c0_i32_118 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_107 : BitVec 32 := 2#32
  let v136 : BitVec 32 := Scalar.xori v5 c2_i32_107
  let c1_i32_108 : BitVec 32 := 1#32
  let v137 : BitVec 32 := Scalar.shrsi v136 c1_i32_108
  let c1_i32_109 : BitVec 32 := 1#32
  let v138 : BitVec 32 := Scalar.andi v137 c1_i32_109
  let v139 : BitVec 32 := Scalar.xori v136 v138
  let c1_i32_117 : BitVec 32 := 1#32
  let v146 : BitVec 32 := Scalar.muli v139 c1_i32_117
  let v147 : BitVec 32 := Scalar.addi c0_i32_118 v146
  v147.toNat
def k0_dev10 (d0 : Dev nD) : Nat :=
  let c0_i32_134 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_122 : BitVec 32 := 2#32
  let v155 : BitVec 32 := Scalar.xori v5 c2_i32_122
  let c1_i32_123 : BitVec 32 := 1#32
  let v156 : BitVec 32 := Scalar.shrsi v155 c1_i32_123
  let c1_i32_124 : BitVec 32 := 1#32
  let v157 : BitVec 32 := Scalar.andi v156 c1_i32_124
  let v158 : BitVec 32 := Scalar.xori v155 v157
  let c1_i32_133 : BitVec 32 := 1#32
  let v165 : BitVec 32 := Scalar.muli v158 c1_i32_133
  let v166 : BitVec 32 := Scalar.addi c0_i32_134 v165
  v166.toNat
def k0_dev11 (d0 : Dev nD) : Nat :=
  let c0_i32_150 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_138 : BitVec 32 := 2#32
  let v174 : BitVec 32 := Scalar.xori v5 c2_i32_138
  let c1_i32_139 : BitVec 32 := 1#32
  let v175 : BitVec 32 := Scalar.shrsi v174 c1_i32_139
  let c1_i32_140 : BitVec 32 := 1#32
  let v176 : BitVec 32 := Scalar.andi v175 c1_i32_140
  let v177 : BitVec 32 := Scalar.xori v174 v176
  let c1_i32_149 : BitVec 32 := 1#32
  let v184 : BitVec 32 := Scalar.muli v177 c1_i32_149
  let v185 : BitVec 32 := Scalar.addi c0_i32_150 v184
  v185.toNat
def k0_off2 (d0 : Dev nD) (c1_i32_163 : BitVec 32) (c4_i32_164 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let v205 : BitVec 32 := Scalar.xori v5 c1_i32_163
  let v206 : BitVec 32 := Scalar.xori v205 c4_i32_164
  let c1_i32_165 : BitVec 32 := 1#32
  let v207 : BitVec 32 := Scalar.shrsi v206 c1_i32_165
  let c1_i32_166 : BitVec 32 := 1#32
  let v208 : BitVec 32 := Scalar.andi v207 c1_i32_166
  let v209 : BitVec 32 := Scalar.xori v206 v208
  let c128_i32_167 : BitVec 32 := 128#32
  let v210 : BitVec 32 := Scalar.muli v209 c128_i32_167
  let c0_i32_175 : BitVec 32 := 0#32
  ![v210.toNat, 0]
def k0_off2_at (r : Fin 7) : BitVec 32 × BitVec 32 :=
  if r.val < 3 then
    if r.val < 1 then
      (1#32, 4#32)
    else
      if r.val < 2 then
        (1#32, 6#32)
      else
        (1#32, 2#32)
  else
    if r.val < 5 then
      if r.val < 4 then
        (1#32, 0#32)
      else
        (4#32, 2#32)
    else
      if r.val < 6 then
        (4#32, 0#32)
      else
        (2#32, 0#32)
def k0_dev12 (d0 : Dev nD) : Nat :=
  let c0_i32_172 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_160 : BitVec 32 := 1#32
  let v201 : BitVec 32 := Scalar.xori v5 c1_i32_160
  let c1_i32_161 : BitVec 32 := 1#32
  let v202 : BitVec 32 := Scalar.shrsi v201 c1_i32_161
  let c1_i32_162 : BitVec 32 := 1#32
  let v203 : BitVec 32 := Scalar.andi v202 c1_i32_162
  let v204 : BitVec 32 := Scalar.xori v201 v203
  let c1_i32_171 : BitVec 32 := 1#32
  let v211 : BitVec 32 := Scalar.muli v204 c1_i32_171
  let v212 : BitVec 32 := Scalar.addi c0_i32_172 v211
  v212.toNat
def k0_dev13 (d0 : Dev nD) : Nat :=
  let c0_i32_187 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_176 : BitVec 32 := 1#32
  let v220 : BitVec 32 := Scalar.xori v5 c1_i32_176
  let c1_i32_177 : BitVec 32 := 1#32
  let v221 : BitVec 32 := Scalar.shrsi v220 c1_i32_177
  let c1_i32_178 : BitVec 32 := 1#32
  let v222 : BitVec 32 := Scalar.andi v221 c1_i32_178
  let v223 : BitVec 32 := Scalar.xori v220 v222
  let c1_i32_186 : BitVec 32 := 1#32
  let v230 : BitVec 32 := Scalar.muli v223 c1_i32_186
  let v231 : BitVec 32 := Scalar.addi c0_i32_187 v230
  v231.toNat
def k0_dev14 (d0 : Dev nD) : Nat :=
  let c0_i32_203 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_191 : BitVec 32 := 1#32
  let v239 : BitVec 32 := Scalar.xori v5 c1_i32_191
  let c1_i32_192 : BitVec 32 := 1#32
  let v240 : BitVec 32 := Scalar.shrsi v239 c1_i32_192
  let c1_i32_193 : BitVec 32 := 1#32
  let v241 : BitVec 32 := Scalar.andi v240 c1_i32_193
  let v242 : BitVec 32 := Scalar.xori v239 v241
  let c1_i32_202 : BitVec 32 := 1#32
  let v249 : BitVec 32 := Scalar.muli v242 c1_i32_202
  let v250 : BitVec 32 := Scalar.addi c0_i32_203 v249
  v250.toNat
def k0_dev15 (d0 : Dev nD) : Nat :=
  let c0_i32_219 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_207 : BitVec 32 := 1#32
  let v258 : BitVec 32 := Scalar.xori v5 c1_i32_207
  let c1_i32_208 : BitVec 32 := 1#32
  let v259 : BitVec 32 := Scalar.shrsi v258 c1_i32_208
  let c1_i32_209 : BitVec 32 := 1#32
  let v260 : BitVec 32 := Scalar.andi v259 c1_i32_209
  let v261 : BitVec 32 := Scalar.xori v258 v260
  let c1_i32_218 : BitVec 32 := 1#32
  let v268 : BitVec 32 := Scalar.muli v261 c1_i32_218
  let v269 : BitVec 32 := Scalar.addi c0_i32_219 v268
  v269.toNat
def k0_off3 (d0 : Dev nD) (c2_i32_239 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let v294 : BitVec 32 := Scalar.xori v5 c2_i32_239
  let c1_i32_240 : BitVec 32 := 1#32
  let v295 : BitVec 32 := Scalar.shrsi v294 c1_i32_240
  let c1_i32_241 : BitVec 32 := 1#32
  let v296 : BitVec 32 := Scalar.andi v295 c1_i32_241
  let v297 : BitVec 32 := Scalar.xori v294 v296
  let c128_i32_242 : BitVec 32 := 128#32
  let v298 : BitVec 32 := Scalar.muli v297 c128_i32_242
  let v299 : Index := Scalar.indexCast v298
  let c0_243 : Index := 0#32
  ![v299.toNat, 0]
def k0_dev16 (d0 : Dev nD) : Nat :=
  let c0_i32_284 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_272 : BitVec 32 := 2#32
  let v339 : BitVec 32 := Scalar.xori v5 c2_i32_272
  let c1_i32_273 : BitVec 32 := 1#32
  let v340 : BitVec 32 := Scalar.shrsi v339 c1_i32_273
  let c1_i32_274 : BitVec 32 := 1#32
  let v341 : BitVec 32 := Scalar.andi v340 c1_i32_274
  let v342 : BitVec 32 := Scalar.xori v339 v341
  let c1_i32_283 : BitVec 32 := 1#32
  let v349 : BitVec 32 := Scalar.muli v342 c1_i32_283
  let v350 : BitVec 32 := Scalar.addi c0_i32_284 v349
  v350.toNat
def k0_dev17 (d0 : Dev nD) : Nat :=
  let c0_i32_300 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_288 : BitVec 32 := 2#32
  let v358 : BitVec 32 := Scalar.xori v5 c2_i32_288
  let c1_i32_289 : BitVec 32 := 1#32
  let v359 : BitVec 32 := Scalar.shrsi v358 c1_i32_289
  let c1_i32_290 : BitVec 32 := 1#32
  let v360 : BitVec 32 := Scalar.andi v359 c1_i32_290
  let v361 : BitVec 32 := Scalar.xori v358 v360
  let c1_i32_299 : BitVec 32 := 1#32
  let v368 : BitVec 32 := Scalar.muli v361 c1_i32_299
  let v369 : BitVec 32 := Scalar.addi c0_i32_300 v368
  v369.toNat
def k0_dev18 (d0 : Dev nD) : Nat :=
  let c0_i32_366 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_354 : BitVec 32 := 1#32
  let v439 : BitVec 32 := Scalar.xori v5 c1_i32_354
  let c1_i32_355 : BitVec 32 := 1#32
  let v440 : BitVec 32 := Scalar.shrsi v439 c1_i32_355
  let c1_i32_356 : BitVec 32 := 1#32
  let v441 : BitVec 32 := Scalar.andi v440 c1_i32_356
  let v442 : BitVec 32 := Scalar.xori v439 v441
  let c1_i32_365 : BitVec 32 := 1#32
  let v449 : BitVec 32 := Scalar.muli v442 c1_i32_365
  let v450 : BitVec 32 := Scalar.addi c0_i32_366 v449
  v450.toNat
def k0_dev19 (d0 : Dev nD) : Nat :=
  let c0_i32_382 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_370 : BitVec 32 := 1#32
  let v458 : BitVec 32 := Scalar.xori v5 c1_i32_370
  let c1_i32_371 : BitVec 32 := 1#32
  let v459 : BitVec 32 := Scalar.shrsi v458 c1_i32_371
  let c1_i32_372 : BitVec 32 := 1#32
  let v460 : BitVec 32 := Scalar.andi v459 c1_i32_372
  let v461 : BitVec 32 := Scalar.xori v458 v460
  let c1_i32_381 : BitVec 32 := 1#32
  let v468 : BitVec 32 := Scalar.muli v461 c1_i32_381
  let v469 : BitVec 32 := Scalar.addi c0_i32_382 v468
  v469.toNat
def k0_off4 (d0 : Dev nD) (c4_i32_402 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let v494 : BitVec 32 := Scalar.xori v5 c4_i32_402
  let c1_i32_403 : BitVec 32 := 1#32
  let v495 : BitVec 32 := Scalar.shrsi v494 c1_i32_403
  let c1_i32_404 : BitVec 32 := 1#32
  let v496 : BitVec 32 := Scalar.andi v495 c1_i32_404
  let v497 : BitVec 32 := Scalar.xori v494 v496
  let c128_i32_405 : BitVec 32 := 128#32
  let v498 : BitVec 32 := Scalar.muli v497 c128_i32_405
  let v499 : Index := Scalar.indexCast v498
  let c0_406 : Index := 0#32
  ![v499.toNat, 0]
def k0_dev20 (d0 : Dev nD) : Nat :=
  let c0_i32_448 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_436 : BitVec 32 := 4#32
  let v539 : BitVec 32 := Scalar.xori v5 c4_i32_436
  let c1_i32_437 : BitVec 32 := 1#32
  let v540 : BitVec 32 := Scalar.shrsi v539 c1_i32_437
  let c1_i32_438 : BitVec 32 := 1#32
  let v541 : BitVec 32 := Scalar.andi v540 c1_i32_438
  let v542 : BitVec 32 := Scalar.xori v539 v541
  let c1_i32_447 : BitVec 32 := 1#32
  let v549 : BitVec 32 := Scalar.muli v542 c1_i32_447
  let v550 : BitVec 32 := Scalar.addi c0_i32_448 v549
  v550.toNat
def k0_dev21 (d0 : Dev nD) : Nat :=
  let c0_i32_464 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_452 : BitVec 32 := 4#32
  let v558 : BitVec 32 := Scalar.xori v5 c4_i32_452
  let c1_i32_453 : BitVec 32 := 1#32
  let v559 : BitVec 32 := Scalar.shrsi v558 c1_i32_453
  let c1_i32_454 : BitVec 32 := 1#32
  let v560 : BitVec 32 := Scalar.andi v559 c1_i32_454
  let v561 : BitVec 32 := Scalar.xori v558 v560
  let c1_i32_463 : BitVec 32 := 1#32
  let v568 : BitVec 32 := Scalar.muli v561 c1_i32_463
  let v569 : BitVec 32 := Scalar.addi c0_i32_464 v568
  v569.toNat
def k0_dev22 (d0 : Dev nD) : Nat :=
  let c0_i32_652 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_640 : BitVec 32 := 1#32
  let v794 : BitVec 32 := Scalar.xori v5 c1_i32_640
  let c1_i32_641 : BitVec 32 := 1#32
  let v795 : BitVec 32 := Scalar.shrsi v794 c1_i32_641
  let c1_i32_642 : BitVec 32 := 1#32
  let v796 : BitVec 32 := Scalar.andi v795 c1_i32_642
  let v797 : BitVec 32 := Scalar.xori v794 v796
  let c1_i32_651 : BitVec 32 := 1#32
  let v804 : BitVec 32 := Scalar.muli v797 c1_i32_651
  let v805 : BitVec 32 := Scalar.addi c0_i32_652 v804
  v805.toNat
def k0_dev23 (d0 : Dev nD) : Nat :=
  let c0_i32_693 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_681 : BitVec 32 := 4#32
  let v844 : BitVec 32 := Scalar.xori v5 c4_i32_681
  let c1_i32_682 : BitVec 32 := 1#32
  let v845 : BitVec 32 := Scalar.shrsi v844 c1_i32_682
  let c1_i32_683 : BitVec 32 := 1#32
  let v846 : BitVec 32 := Scalar.andi v845 c1_i32_683
  let v847 : BitVec 32 := Scalar.xori v844 v846
  let c1_i32_692 : BitVec 32 := 1#32
  let v854 : BitVec 32 := Scalar.muli v847 c1_i32_692
  let v855 : BitVec 32 := Scalar.addi c0_i32_693 v854
  v855.toNat
def k0_dev24 (d0 : Dev nD) : Nat :=
  let c0_i32_734 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_722 : BitVec 32 := 2#32
  let v894 : BitVec 32 := Scalar.xori v5 c2_i32_722
  let c1_i32_723 : BitVec 32 := 1#32
  let v895 : BitVec 32 := Scalar.shrsi v894 c1_i32_723
  let c1_i32_724 : BitVec 32 := 1#32
  let v896 : BitVec 32 := Scalar.andi v895 c1_i32_724
  let v897 : BitVec 32 := Scalar.xori v894 v896
  let c1_i32_733 : BitVec 32 := 1#32
  let v904 : BitVec 32 := Scalar.muli v897 c1_i32_733
  let v905 : BitVec 32 := Scalar.addi c0_i32_734 v904
  v905.toNat
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_836 : BitVec 32 := 128#32
  let v1037 : BitVec 32 := Scalar.muli v2 c128_i32_836
  let v1038 : Index := Scalar.indexCast v1037
  let c0_837 : Index := 0#32
  ![v1038.toNat, 0]
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_902 : BitVec 32 := 128#32
  let v1133 : BitVec 32 := Scalar.muli v2 c128_i32_902
  let v1134 : Index := Scalar.indexCast v1133
  let c0_903 : Index := 0#32
  ![v1134.toNat, 0]
abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S_, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S_, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S_, .f32⟩
  | .hbm, ⟨17, _⟩ => ⟨S1024x1024, .f32⟩
  | .hbm, ⟨18, _⟩ => ⟨S1024x1024, .f32⟩
  | .hbm, ⟨19, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Protocol.lean ====
/-
# The exchange: who sends what to whom, what each semaphore hands over, and at which level each is waited on

Eight devices, each holding the partial products of its own columns of `x` with its own rows of `w_mat`, sum them in
three exchanges. The columns of the product come in three groups, and every group exchanges along the three axes of
the cube of devices in an order of its own (`mk`). A device's partner along mask `s` is `xr c s`; a group's rows come
in eight chunks, chunk `xr c s` of device `c` named by `s`. In its first exchange a group sends four chunks, in its
second two, in its third one; the receiver adds what lands to a chunk it keeps.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

set_option backward.proofsInPublic true

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's part and the exchange's (duties named by `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The cube of devices -/

/-- A device's position on the cube, and back: the lowest bit is flipped where the next one is set. -/
def gray (p : ℕ) : ℕ := p ^^^ ((p >>> 1) &&& 1)

/-- The device reached from `c` along the axes in the mask `s`. -/
def xr (c : Dev nD) (s : Fin 8) : Dev nD := ⟨gray (gray c.val ^^^ s.val) % 8, Nat.mod_lt _ (by decide)⟩

theorem xr_zero : ∀ c : Dev nD, xr c 0 = c := by decide
theorem xr_xr : ∀ (c : Dev nD) (s t : Fin 8), xr (xr c s) t = xr c (s ^^^ t) := by decide +kernel
theorem xr_self : ∀ (c : Dev nD) (s : Fin 8), xr (xr c s) s = c := by decide
theorem xr_inj : ∀ (c : Dev nD) (s t : Fin 8), xr c s = xr c t → s = t := by decide +kernel
theorem xr_surj : ∀ (c r : Dev nD), ∃ s : Fin 8, xr c s = r := by decide +kernel

/-- Going along a mask, both ways. -/
def along (s : Fin 8) : Dev nD ≃ Dev nD := ⟨fun c => xr c s, fun c => xr c s, fun c => xr_self c s, fun c => xr_self c s⟩

/-- The transfers of a device: a column group and a landing slot. -/
abbrev T : Type := Fin 3 × Fin 7

/-- The mask group `g` exchanges along in its exchange `t`. -/
def mk (g : Fin 3) (t : ℕ) : Fin 8 :=
  match g, t with
  | 0, 0 => 4 | 0, 1 => 2 | 0, _ => 1
  | 1, 0 => 2 | 1, 1 => 1 | 1, _ => 4
  | 2, 0 => 1 | 2, 1 => 4 | 2, _ => 2

/-- The exchange landing slot `k` belongs to. -/
def step (k : Fin 7) : ℕ := if k.val < 4 then 0 else if k.val < 6 then 1 else 2

/-- The chunk what lands in slot `k` is added to. -/
def tgt (g : Fin 3) (k : Fin 7) : Fin 8 :=
  match k with
  | 0 => mk g 1 | 1 => mk g 1 ^^^ mk g 2 | 2 => mk g 2 | 3 => 0 | 4 => mk g 2 | 5 => 0 | 6 => 0

/-- The mask a transfer goes along. -/
def mm (i : T) : Fin 8 := mk i.1 (step i.2)

/-- The chunk a transfer sends. -/
def src (g : Fin 3) (k : Fin 7) : Fin 8 := mk g (step k) ^^^ tgt g k

/-- The place of a transfer among the sends, among the receives, and among the waits for the sends. -/
def posS (i : T) : ℕ := if i.2.val < 4 then 4 * i.1.val + i.2.val else if i.2.val < 6 then 12 + 2 * i.1.val + (i.2.val - 4) else 18 + i.1.val
def posR (i : T) : ℕ :=
  if i.2.val < 2 then 2 * i.1.val + i.2.val else if i.2.val < 4 then 6 + 2 * i.1.val + (i.2.val - 2)
  else if i.2.val = 4 then 12 + i.1.val else if i.2.val = 5 then 15 + i.1.val else 18 + i.1.val
def posD (i : T) : ℕ := 7 * i.1.val + i.2.val

theorem posS_inj : ∀ i j : T, posS i = posS j → i = j := by decide +kernel
theorem posR_inj : ∀ i j : T, posR i = posR j → i = j := by decide +kernel
theorem posD_inj : ∀ i j : T, posD i = posD j → i = j := by decide +kernel
theorem posS_lt : ∀ i : T, posS i < 21 := by decide
theorem posR_lt : ∀ i : T, posR i < 21 := by decide
theorem posD_lt : ∀ i : T, posD i < 21 := by decide
theorem src_inj : ∀ (g : Fin 3) (k k' : Fin 7), src g k = src g k' → k = k' := by decide +kernel
theorem src_ne_zero : ∀ (g : Fin 3) (k : Fin 7), src g k ≠ 0 := by decide
theorem src_surj : ∀ (g : Fin 3) (s : Fin 8), s ≠ 0 → ∃ k, src g k = s := by decide +kernel

/-- How often chunk `s` of group `g` has been added to once `n` landings are added. -/
def lvl (n : ℕ) (g : Fin 3) (s : Fin 8) : ℕ := (Finset.univ.filter fun k : Fin 7 => tgt g k = s ∧ posR (g, k) < n).card

/-- Chunk `s` of group `g` is away once `n` sends are issued. -/
def Gone (n : ℕ) (g : Fin 3) (s : Fin 8) : Prop := ∃ k : Fin 7, src g k = s ∧ posS (g, k) < n
instance (n g s) : Decidable (Gone n g s) := inferInstanceAs (Decidable (∃ k : Fin 7, src g k = s ∧ posS (g, k) < n))

theorem lvl_zero (g : Fin 3) (s : Fin 8) : lvl 0 g s = 0 := by
  unfold lvl; rw [Finset.card_eq_zero, Finset.filter_eq_empty_iff]; exact fun _ _ h => Nat.not_lt_zero _ h.2
theorem lvl_other : ∀ (i : T) (g : Fin 3) (s : Fin 8), ¬ (g = i.1 ∧ s = tgt i.1 i.2) → lvl (posR i + 1) g s = lvl (posR i) g s := by decide +kernel
theorem lvl_add : ∀ i : T, lvl (posR i) i.1 (tgt i.1 i.2) = step i.2 := by decide +kernel
theorem lvl_added : ∀ i : T, lvl (posR i + 1) i.1 (tgt i.1 i.2) = step i.2 + 1 := by decide +kernel
theorem lvl_end : ∀ g : Fin 3, lvl (posR (g, 6) + 1) g 0 = 3 := by decide +kernel

/-! ## The buffers -/

/-- The width of a column group, and where it starts. -/
def wd (g : Fin 3) : ℕ := match g with | 0 => 384 | 1 => 384 | 2 => 256
def off (g : Fin 3) : ℕ := match g with | 0 => 0 | 1 => 384 | 2 => 768

abbrev xM : Memref sig .tc .vmem S1024x128 .f32 := Memref.whole cc0_stg0_0
abbrev wM : Memref sig .tc .vmem S128x1024 .f32 := Memref.whole cc0_stg1_0
abbrev oM : Memref sig .tc .vmem S128x1024 .f32 := Memref.whole cc0_stg2_0

abbrev Sa (g : Fin 3) : Shape := ⟨2, ![1024, wd g]⟩
abbrev Sc (g : Fin 3) : Shape := ⟨2, ![128, wd g]⟩
abbrev Sb (g : Fin 3) : Shape := ⟨3, ![7, 128, wd g]⟩
abbrev Ss (g : Fin 3) : Shape := ⟨3, ![1, 128, wd g]⟩

/-- The group's accumulator and its landing slots. -/
def accM (g : Fin 3) : Memref sig .tc .vmem (Sa g) .f32 :=
  match g with | 0 => Memref.whole cc0_scratch0 | 1 => Memref.whole cc0_scratch1 | 2 => Memref.whole cc0_scratch2
def bufA (g : Fin 3) : Memref sig .tc .vmem (Sb g) .f32 :=
  match g with | 0 => Memref.whole cc0_scratch3 | 1 => Memref.whole cc0_scratch4 | 2 => Memref.whole cc0_scratch5

theorem row_inb (g : Fin 3) (r : Dev nD) : ∀ a, (![128 * r.val, 0] : Fin 2 → ℕ) a + (Sc g).size a ≤ (Sa g).size a := by
  revert g r; decide +kernel
theorem slot_inb (g : Fin 3) (k : Fin 7) : ∀ a, (![k.val, 0, 0] : Fin 3 → ℕ) a + (Ss g).size a ≤ (Sb g).size a := by
  revert g k; decide +kernel
theorem squeezes (g : Fin 3) : (Ss g).Squeezes (Sc g) := by revert g; decide

abbrev rowR (g : Fin 3) (r : Dev nD) : Rect (Sa g) := Rect.unit (s := Sa g) ![128 * r.val, 0] (Sc g).size (row_inb g r)
abbrev slotR (g : Fin 3) (k : Fin 7) : Rect (Sb g) := Rect.unit (s := Sb g) ![k.val, 0, 0] (Ss g).size (slot_inb g k)

/-- Row chunk `r` of the accumulator; landing slot `k`, as it is laid out and as a transfer names it. -/
def chunkM (g : Fin 3) (r : Dev nD) : Memref sig .tc .vmem (Sc g) .f32 := (accM g).slice (rowR g r) (fun _ => rfl)
def slotM (i : T) : Memref sig .tc .vmem (Ss i.1) .f32 := (bufA i.1).slice (slotR i.1 i.2) (fun _ => rfl)
def bufM (i : T) : Memref sig .tc .vmem (Sc i.1) .f32 := (slotM i).squeeze (Sc i.1) (squeezes i.1)

/-! ## The semaphores -/

/-- The barrier semaphore; the send (`false`) and receive (`true`) semaphores of the transfers. -/
abbrev barS : Sem sig := (SemArray.scalar (sig.barrier 0 rfl) : Sems sig S_).sem
def xS (b : Bool) (i : T) : DmaSem sig := ⟨3 + 14 * i.1.val + (if b then 7 else 0) + i.2.val, by revert b i; decide +kernel⟩

/-- Which transfer's semaphore a DMA semaphore is, if it is one. -/
def dec (q : DmaSem sig) : Option (Bool × T) :=
  if h : 3 ≤ q.val then some (decide (7 ≤ (q.val - 3) % 14), (⟨(q.val - 3) / 14 % 3, Nat.mod_lt _ (by decide)⟩, ⟨(q.val - 3) % 7, Nat.mod_lt _ (by decide)⟩)) else none

theorem dec_xS : ∀ (b : Bool) (i : T), dec (xS b i) = some (b, i) := by decide +kernel
theorem xS_inj {b b' : Bool} {i i' : T} (h : xS b i = xS b' i') : b = b' ∧ i = i' := by
  have := congrArg dec h
  rw [dec_xS, dec_xS, Option.some.injEq, Prod.mk.injEq] at this
  exact this

abbrev barCell (c : Dev nD) : GSem nD τ sig := ((c : Thread nD τ), .reg barS)
abbrev xCell (b : Bool) (c : Dev nD) (i : T) : GSem nD τ sig := ((c : Thread nD τ), .dma (xS b i))

/-- The cells of a device: its barrier, and its send and receive semaphores. -/
abbrev CI : Type := Option (Bool × T)
abbrev osem : Bool × T → SemLoc sig := fun k => .dma (xS k.1 k.2)
abbrev csem : CI → SemLoc sig := fun | none => .reg barS | some k => osem k
abbrev kcell (ck : Dev nD × CI) : GSem nD τ sig := ((ck.1 : Thread nD τ), csem ck.2)

/-- What one transfer of the group credits. -/
def N (g : Fin 3) : ℕ := (bufM (g, 0)).view.dmaCredit
theorem N_pos (g : Fin 3) : 0 < N g := View.dmaCredit_pos _ (by revert g; decide)
theorem N_buf (i : T) : (bufM i).view.dmaCredit = N i.1 := rfl
theorem N_chunk (g : Fin 3) (r : Dev nD) : (chunkM g r).view.dmaCredit = N g := by
  match g with | 0 => rfl | 1 => rfl | 2 => rfl

/-! ## Contents -/

/-- The device's blocks of the two arguments, as the launch stages them. -/
def xst (c : Dev nD) : S1024x128.Idx → Elt F .f32 := (win0_0.blk t0_0).view.read (Elt F) (m ((c : Thread nD τ).loc main_arg0))
def wst (c : Dev nD) : S128x1024.Idx → Elt F .f32 := (win0_1.blk t0_0).view.read (Elt F) (m ((c : Thread nD τ).loc main_arg1))

theorem wcol_inb (g : Fin 3) : ∀ a, (![0, off g] : Fin 2 → ℕ) a + (Sc g).size a ≤ S128x1024.size a := by revert g; decide +kernel
abbrev colR (g : Fin 3) : Rect S128x1024 := Rect.unit (s := S128x1024) ![0, off g] (Sc g).size (wcol_inb g)

/-- The device's rows of `w_mat` in a column group. -/
def wcol (c : Dev nD) (g : Fin 3) : (Sc g).Idx → Elt F .f32 := fun j => wst m c ((colR g).emb j)

/-- The device's partial product in a column group. -/
def prod (c : Dev nD) (g : Fin 3) : (Sa g).Idx → Elt F .f32 :=
  match g with
  | 0 => k0_pay2 (k0_pay1 (xst m c)) (wcol m c 0)
  | 1 => k0_pay3 (xst m c) (wcol m c 1)
  | 2 => k0_pay4 (xst m c) (wcol m c 2)

/-- Row chunk `r` of group `g` on device `c` after `t` additions: the partner's is added each time. -/
def Ac (g : Fin 3) : ℕ → Dev nD → Dev nD → (Sc g).Idx → Elt F .f32
  | 0, c, r => fun j => prod m c g ((rowR g r).emb j)
  | t + 1, c, r => addf (Ac g t c r : FVec F (Sc g) .f32) (Ac g t (xr c (mk g t)) r)

/-- What lands in a slot of device `c`. -/
def landed (c : Dev nD) (i : T) : (Sc i.1).Idx → Elt F .f32 := Ac m i.1 (step i.2) (xr c (mm i)) (xr c (tgt i.1 i.2))

/-! ## The schedule -/

/-- The chunk a transfer sends, back with the sender; -/
def sndPay (c : Dev nD) (i : T) : sProp 𝕄 := iprop(∃ X, ownsTc c (chunkM i.1 (xr c (src i.1 i.2))) fullShare X)
/-- the slot it lands in, at what landed; -/
def rcvPay (c : Dev nD) (i : T) : sProp 𝕄 := ownsTc c (bufM i) fullShare (landed m c i)
/-- a partner's landing slots, from its signal. -/
def slotSome (c : Dev nD) (i : T) : sProp 𝕄 := iprop(∃ X, ownsTc c (bufM i) fullShare X)
def bit (j : Fin 3) : Fin 8 := match j with | 0 => 1 | 1 => 2 | 2 => 4
def barPay (c : Dev nD) (j : Fin 3) : sProp 𝕄 :=
  bigSep Finset.univ fun i : T => if mm i = bit j then slotSome (F := F) (xr c (mm i)) i else iprop(emp)

instance sndPay_storable (c : Dev nD) (i : T) : BI.Storable (upEmb : UEmb _ 𝕄) (sndPay (F := F) c i) := by unfold sndPay; infer_instance
instance rcvPay_storable (c : Dev nD) (i : T) : BI.Storable (upEmb : UEmb _ 𝕄) (rcvPay (F := F) m c i) := by unfold rcvPay; infer_instance
instance slotSome_storable (c : Dev nD) (i : T) : BI.Storable (upEmb : UEmb _ 𝕄) (slotSome (F := F) c i) := by unfold slotSome; infer_instance
instance slotIf_storable (c : Dev nD) (i : T) (p : Prop) [Decidable p] :
    BI.Storable (upEmb : UEmb _ 𝕄) (if p then slotSome (F := F) c i else iprop(emp)) := by split <;> infer_instance
instance barPay_storable (c : Dev nD) (j : Fin 3) : BI.Storable (upEmb : UEmb _ 𝕄) (barPay (F := F) c j) := by
  unfold barPay; infer_instance

/-- What a cell's duty hands over. -/
def pay (c : Dev nD) (s : SemLoc sig) (d : Fin 3) : sProp 𝕄 :=
  match s with
  | .reg _ => barPay c d
  | .dma q => match dec q with
    | some (false, i) => sndPay c i
    | some (true, i) => rcvPay m c i
    | none => iprop(emp)

instance pay_storable (c : Dev nD) (s : SemLoc sig) (d : Fin 3) : BI.Storable (upEmb : UEmb _ 𝕄) (pay (F := F) m c s d) := by
  unfold pay; split
  · infer_instance
  · split <;> infer_instance

def dut (s : SemLoc sig) : Finset (Fin 3) :=
  match s with
  | .reg q => if q = barS then Finset.univ else ∅
  | .dma q => match dec q with | some _ => {0} | none => ∅

def amt (s : SemLoc sig) : ℕ :=
  match s with
  | .reg _ => 1
  | .dma q => match dec q with | some (_, i) => N i.1 | none => 1

theorem amt_pos (s : SemLoc sig) : 0 < amt s := by
  unfold amt; split
  · exact Nat.one_pos
  · split
    · exact N_pos _
    · exact Nat.one_pos

/-- One round, round 0. A barrier cell has three duties of a unit each, duty `j` paid by the partner along axis `j`
    with the slots the owner will fill there; a send or receive cell one duty of the transfer's credit. -/
def Rd : Rounds.Schedule (GSem nD τ sig) (Fin 3) 𝕄 where
  duties g r := if r = 0 ∧ g.1.2 = .tc then dut g.2 else ∅
  unitless _ := False
  amount g _ _ := amt g.2
  payload g _ d := pay m g.1.1 g.2 d
  amount_pos g _ _ _ := amt_pos g.2

instance Rd_payload_storable (g : GSem nD τ sig) (r : ℕ) (d : Fin 3) :
    BI.Storable (upEmb : UEmb _ 𝕄) ((Rd (F := F) m).payload g r d) := pay_storable m g.1.1 g.2 d

section Sched
variable (c : Dev nD) (b : Bool) (i : T)

theorem dut_x : dut (.dma (xS b i)) = {0} := by unfold dut; dsimp only; rw [dec_xS]
theorem amt_x : amt (.dma (xS b i)) = N i.1 := by unfold amt; dsimp only; rw [dec_xS]

theorem duties_bar : (Rd (F := F) m).duties (barCell c) 0 = Finset.univ := by
  dsimp only [Rd]; rw [if_pos ⟨rfl, rfl⟩]; unfold dut; exact if_pos rfl
theorem duties_x : (Rd (F := F) m).duties (xCell b c i) 0 = {0} := by
  dsimp only [Rd]; rw [if_pos ⟨rfl, rfl⟩]; exact dut_x b i
theorem duties_later (g : GSem nD τ sig) : ∀ r, 1 ≤ r → (Rd (F := F) m).duties g r = ∅ :=
  fun r hr => by dsimp only [Rd]; rw [if_neg fun h => by omega]
theorem amount_bar (d : Fin 3) : (Rd (F := F) m).amount (barCell c) 0 d = 1 := rfl
theorem amount_x (d : Fin 3) : (Rd (F := F) m).amount (xCell b c i) 0 d = N i.1 := amt_x b i
theorem expect_bar : (Rd (F := F) m).expect (barCell c) 0 = 3 := by
  unfold Schedule.expect Schedule.amountOf
  rw [duties_bar, Finset.sum_congr rfl fun d _ => amount_bar m c d]; rfl
theorem expect_x : (Rd (F := F) m).expect (xCell b c i) 0 = N i.1 := by
  unfold Schedule.expect Schedule.amountOf; rw [duties_x, Finset.sum_singleton, amount_x]
theorem payload_bar (d : Fin 3) : (Rd (F := F) m).payload (barCell c) 0 d = barPay c d := rfl
theorem payload_snd (d : Fin 3) : (Rd (F := F) m).payload (xCell false c i) 0 d = sndPay c i := by
  dsimp only [Rd, pay]; rw [dec_xS]
theorem payload_rcv (d : Fin 3) : (Rd (F := F) m).payload (xCell true c i) 0 d = rcvPay m c i := by
  dsimp only [Rd, pay]; rw [dec_xS]

theorem rest_snd : bigSep ((Rd (F := F) m).duties (xCell false c i) 0 \ ∅) (fun d => (Rd (F := F) m).payload (xCell false c i) 0 d) = sndPay c i := by
  rw [Finset.sdiff_empty, duties_x, bigSep_singleton, payload_snd]
theorem rest_rcv : bigSep ((Rd (F := F) m).duties (xCell true c i) 0 \ ∅) (fun d => (Rd (F := F) m).payload (xCell true c i) 0 d) = rcvPay m c i := by
  rw [Finset.sdiff_empty, duties_x, bigSep_singleton, payload_rcv]

theorem sep_emp_eq (P : sProp 𝕄) : iprop(P ∗ emp) = P := equiv_iff.mp BI.sep_emp
theorem emp_sep_eq (P : sProp 𝕄) : iprop(emp ∗ P) = P := equiv_iff.mp BI.emp_sep

theorem bit_mm : ∀ i : T, ∃ j : Fin 3, mm i = bit j ∧ ∀ j', j' ≠ j → ¬ mm i = bit j' := by decide +kernel

/-- The three signals together hand over every partner's slots. -/
theorem rest_bar : bigSep ((Rd (F := F) m).duties (barCell c) 0 \ ∅) (fun d => (Rd (F := F) m).payload (barCell c) 0 d)
    = bigSep Finset.univ fun i : T => slotSome (F := F) (xr c (mm i)) i := by
  rw [Finset.sdiff_empty, duties_bar]
  show bigSep Finset.univ (fun d => barPay c d) = _
  unfold barPay
  rw [bigSep_univ_comm]
  refine bigSep_congr fun i _ => ?_
  obtain ⟨j, hj, hne⟩ := bit_mm i
  rw [bigSep_univ_at _ j, if_pos hj, bigSep_congr (Ψ := fun _ => iprop(emp)) fun j' hj' => if_neg (hne j' (Finset.ne_of_mem_erase hj'))]
  exact (congrArg (fun P => iprop(slotSome (F := F) (xr c (mm i)) i ∗ P)) (bigSep_emp_const _)).trans (sep_emp_eq _)

end Sched

/-! ## What a device owes, and the levels -/

/-- What device `c` still owes once `n` sends are issued: the credit of every transfer to come. -/
def Owed (c : Dev nD) (n : ℕ) : CellTallies nD τ sig Unit :=
  ∑ i : T, if posS i < n then 0 else tallyAt (xCell true (xr c (mm i)) i) () (N i.1)

/-- At launch also a unit to each partner's barrier, summed so that the first signal peels the last summand. -/
def O₂ (c : Dev nD) : CellTallies nD τ sig Unit := Owed c 0 + tallyAt (barCell (xr c 4)) () 1
def O₁ (c : Dev nD) : CellTallies nD τ sig Unit := O₂ c + tallyAt (barCell (xr c 2)) () 1
def O₀ (c : Dev nD) : CellTallies nD τ sig Unit := O₁ c + tallyAt (barCell (xr c 1)) () 1

theorem Owed_send (c : Dev nD) (i : T) :
    Owed c (posS i) = Owed c (posS i + 1) + tallyAt (xCell true (xr c (mm i)) i) () (N i.1) := by
  unfold Owed
  rw [← Finset.add_sum_erase _ _ (Finset.mem_univ i), ← Finset.add_sum_erase (Finset.univ : Finset T) (fun i_1 => if posS i_1 < posS i + 1 then 0 else _) (Finset.mem_univ i),
    if_neg (Nat.lt_irrefl _), if_pos (Nat.lt_succ_self _), zero_add, add_comm]
  congr 1
  refine Finset.sum_congr rfl fun j hj => ?_
  have hne : posS j ≠ posS i := fun h => Finset.ne_of_mem_erase hj (posS_inj _ _ h)
  by_cases h : posS j < posS i
  · rw [if_pos h, if_pos (by omega)]
  · rw [if_neg h, if_neg (by omega)]

theorem Owed_end (c : Dev nD) : Owed c 21 = 0 := by
  unfold Owed; exact Finset.sum_eq_zero fun i _ => if_pos (posS_lt i)

theorem Owed_pos {c : Dev nD} {n : ℕ} {g : GSem nD τ sig} {u : Unit} (h : 0 < Owed c n g u) :
    ∃ i : T, n ≤ posS i ∧ g = xCell true (xr c (mm i)) i := by
  unfold Owed at h
  rw [Finset.sum_apply, Finsupp.finset_sum_apply] at h
  obtain ⟨i, -, hi⟩ := Finset.exists_ne_zero_of_sum_ne_zero (Nat.pos_iff_ne_zero.mp h)
  refine ⟨i, ?_, ?_⟩
  · by_contra hn
    rw [if_pos (by omega)] at hi; exact hi rfl
  · by_contra hn
    apply hi
    split
    · rfl
    · rw [tallyAt_apply, if_neg fun h' => hn h'.1]

def L (g : GSem nD τ sig) : Finset Unit := if g.1.2 = .tc then {()} else ∅

/-- Barrier cells at level 1, a receive cell of exchange `t` at level `2 + t`, everything else at 0. -/
def lev (s : SemLoc sig) : ℕ :=
  match s with
  | .reg _ => 1
  | .dma q => match dec q with | some (true, i) => 2 + step i.2 | _ => 0
def lv (g : GSem nD τ sig) (_ : Unit) : ℕ := lev g.2

theorem L_of_ne (g : GSem nD τ sig) (h : g.1.2 ≠ .tc) : L g = ∅ := if_neg h
theorem L_tc (c : Dev nD) (sm : SemLoc sig) : L ((c : Thread nD τ), sm) = {()} := if_pos rfl
theorem lev_rcv (i : T) : lev (.dma (xS true i)) = 2 + step i.2 := by unfold lev; dsimp only; rw [dec_xS]

theorem tally_at_pos {g g' : GSem nD τ sig} {u u' : Unit} {k : ℕ} (h : 0 < (tallyAt g u k : CellTallies nD τ sig Unit) g' u') : g' = g := by
  rw [tallyAt_apply] at h; by_contra hn; rw [if_neg fun h' => hn h'.1] at h; exact Nat.lt_irrefl 0 h
theorem tally_add_pos {A B : CellTallies nD τ sig Unit} {g : GSem nD τ sig} {u : Unit} (h : 0 < (A + B) g u) : 0 < A g u ∨ 0 < B g u := by
  rw [Pi.add_apply, Finsupp.add_apply] at h; omega

theorem O₀_pos {c : Dev nD} {g : GSem nD τ sig} {u : Unit} (h : 0 < O₀ c g u) :
    (∃ i : T, g = xCell true (xr c (mm i)) i) ∨ ∃ d : Dev nD, g = barCell d := by
  rcases tally_add_pos h with h | h
  · rcases tally_add_pos h with h | h
    · rcases tally_add_pos h with h | h
      · obtain ⟨i, -, hi⟩ := Owed_pos h
        exact Or.inl ⟨i, hi⟩
      · exact Or.inr ⟨_, tally_at_pos h⟩
    · exact Or.inr ⟨_, tally_at_pos h⟩
  · exact Or.inr ⟨_, tally_at_pos h⟩

/-- A staging semaphore may be waited on whatever is owed. -/
theorem mayWait_stage (c : Dev nD) (q : DmaSem sig) (hq : dec q = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨i, rfl⟩ | ⟨d, rfl⟩ <;> exact Finset.mem_singleton_self _)
      (fun p hp => by rw [Finset.mem_singleton.mp hp]; dsimp only [lv, lev]; rw [hq])
      (fun g u hg => by
        rcases O₀_pos hg with ⟨i, rfl⟩ | ⟨d, rfl⟩
        · show 0 < lev (.dma (xS true i)); rw [lev_rcv]; omega
        · exact Nat.one_pos)
  · rw [MayWait_zero]; iintro -; iempintro

/-- A cell below every receive cell still owed to may be waited on. -/
theorem mayWait_owed (c : Dev nD) (sm : SemLoc sig) (n : ℕ) (h : ∀ i : T, n ≤ posS i → lev sm < 2 + step i.2) :
    (levAts L lv : sProp 𝕄) ⊢ MayWait (c : Thread nD τ) sm () (Owed c n) :=
  MayOwe.of_cut (L := L) (lev := lv) (lev sm) (fun p hp => by rw [Finset.mem_singleton.mp hp, L_tc]; exact Finset.mem_singleton_self _)
    (fun g u hg => by obtain ⟨i, -, rfl⟩ := Owed_pos hg; exact Finset.mem_singleton_self _)
    (fun p hp => by rw [Finset.mem_singleton.mp hp]; exact Nat.le_refl _)
    (fun g u hg => by obtain ⟨i, hi, rfl⟩ := Owed_pos hg; show lev sm < lev (.dma (xS true i)); rw [lev_rcv]; exact h i hi)

end Cert.Exchange

end
-- ==== Proof.Steps.lean ====
/-
# What a device holds between two effects of the kernel, and one rule per effect

`St` is indexed by how far the device has come: column groups computed, transfers issued, received, added and waited
for, column groups written. Every effect of the kernel after the barrier moves one of these counters or none.
-/
module

public import proofs.«01_k».proof.Proof.Protocol
public import Idealize.ShloMosaic.Lib.MemrefSat

@[expose] public section

set_option backward.proofsInPublic true

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ) (c : Dev nD)

abbrev 𝒱₀ : Variants := Variants.none

/-- Running `p` on device `c` to `Q`. -/
abbrev exec {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- One summand taken out of a conjunction over a finite type, to be put back changed. -/
theorem bigSep_move {I : Type} [Fintype I] [DecidableEq I] {Φ Ψ : I → sProp 𝕄} (i : I) (h : ∀ j, j ≠ i → Φ j = Ψ j) :
    bigSep Finset.univ Φ ⊢ iprop(Φ i ∗ (Ψ i -∗ bigSep Finset.univ Ψ)) := by
  rw [bigSep_univ_at Φ i, bigSep_univ_at Ψ i, bigSep_congr (Ψ := Ψ) fun j hj => h j (Finset.ne_of_mem_erase hj)]
  iintro ⟨H, HR⟩
  isplitl [H]; · iexact H
  iintro H
  isplitl [H] <;> iassumption

/-- Owning a memref is holding some contents of its buffer that read as given. -/
theorem owns_open (d : Dev nD) {sh : Shape} (M : Memref sig .tc .vmem sh .f32) (X : sh.Idx → Elt F .f32) :
    (ownsTc d M fullShare X : sProp 𝕄) ⊢ iprop(∃ f, ⌜M.view.read (Elt F) f = X⌝ ∗ (M.view.loc (d : Thread nD τ) ↦[M.view.set]{fullShare} f)) := by
  unfold ownsTc owns; iintro H; iexact H
theorem owns_shut (d : Dev nD) {sh : Shape} (M : Memref sig .tc .vmem sh .f32) {X : sh.Idx → Elt F .f32} {f : M.view.ty.Contents (Elt F)} (h : M.view.read (Elt F) f = X) :
    (M.view.loc (d : Thread nD τ) ↦[M.view.set]{fullShare} f : sProp 𝕄) ⊢ ownsTc d M fullShare X := by
  subst h; exact owns_intro (d : Thread nD τ) M fullShare f

/-- A chunk and a slot, held as the elements an access to the accumulator or the slots goes through. -/
theorem chunk_open (d : Dev nD) (g : Fin 3) (r : Dev nD) (X : (Sc g).Idx → Elt F .f32) :
    (ownsTc d (chunkM g r) fullShare X : sProp 𝕄) ⊢ iprop(∃ f, ⌜((accM g).access (rowR g r)).read (Elt F) f = X⌝
      ∗ (((accM g).access (rowR g r)).loc (d : Thread nD τ) ↦[((accM g).access (rowR g r)).set]{fullShare} f)) := owns_open d (chunkM g r) X
theorem chunk_shut (d : Dev nD) (g : Fin 3) (r : Dev nD) {X : (Sc g).Idx → Elt F .f32} {f : (accM g).view.ty.Contents (Elt F)} (h : ((accM g).access (rowR g r)).read (Elt F) f = X) :
    (((accM g).access (rowR g r)).loc (d : Thread nD τ) ↦[((accM g).access (rowR g r)).set]{fullShare} f : sProp 𝕄) ⊢ ownsTc d (chunkM g r) fullShare X :=
  owns_shut d (chunkM g r) h
theorem slot_set (i : T) : (bufM i).view.set = ((bufA i.1).access (slotR i.1 i.2)).set := View.set_reshape _ _
theorem slot_open (d : Dev nD) (i : T) (X : (Sc i.1).Idx → Elt F .f32) :
    (ownsTc d (bufM i) fullShare X : sProp 𝕄) ⊢ iprop(∃ f, ⌜(bufM i).view.read (Elt F) f = X⌝
      ∗ (((bufA i.1).access (slotR i.1 i.2)).loc (d : Thread nD τ) ↦[((bufA i.1).access (slotR i.1 i.2)).set]{fullShare} f)) := by
  rw [← slot_set]; exact owns_open d (bufM i) X
theorem slot_shut (d : Dev nD) (i : T) {X : (Sc i.1).Idx → Elt F .f32} {f : (bufA i.1).view.ty.Contents (Elt F)} (h : (bufM i).view.read (Elt F) f = X) :
    (((bufA i.1).access (slotR i.1 i.2)).loc (d : Thread nD τ) ↦[((bufA i.1).access (slotR i.1 i.2)).set]{fullShare} f : sProp 𝕄) ⊢ ownsTc d (bufM i) fullShare X := by
  rw [← slot_set]; exact owns_shut d (bufM i) h

/-! ## The state -/

/-- What every device knows: the cells' invariants, that every cell is in its round, the levels. -/
def records : sProp 𝕄 :=
  iprop((bigSep Finset.univ fun ck => cellInv ER (Rd m) (K ck) (kcell ck)) ∗ (bigSep Finset.univ fun ck => reached ER (kcell ck) 0) ∗ levAts L lv)

instance records_persistent : BI.Persistent (records (F := F) m K) := by unfold records; infer_instance

theorem records_cell (ck : Dev nD × CI) : records (F := F) m K ⊢ iprop(cellInv ER (Rd m) (K ck) (kcell ck) ∗ reached ER (kcell ck) 0) := by
  unfold records
  iintro ⟨#H1, #H2, -⟩
  isplitr
  · iapply (show _ ⊢ cellInv ER (Rd (F := F) m) (K ck) (kcell ck) from bigSep_elim (Φ := fun ck => cellInv ER (Rd (F := F) m) (K ck) (kcell ck)) (Finset.mem_univ ck)); iexact H1
  · iapply (show _ ⊢ (reached ER (kcell ck) 0 : sProp 𝕄) from bigSep_elim (Φ := fun ck => reached ER (kcell ck) 0) (Finset.mem_univ ck)); iexact H2
theorem records_lev : records (F := F) m K ⊢ levAts L lv := by unfold records; iintro ⟨-, -, H⟩; iexact H

/-- A group's accumulator before its products are computed. -/
def accAt (nC : ℕ) (g : Fin 3) : sProp 𝕄 := if g.val < nC then iprop(emp) else iprop(∃ X, ownsTc c (accM g) fullShare X)
/-- A row chunk of a computed accumulator: away once sent, else at its value after the additions so far. -/
def chunkAt (nC nS nA : ℕ) (gs : Fin 3 × Fin 8) : sProp 𝕄 :=
  if gs.1.val < nC then
    if Gone nS gs.1 gs.2 then iprop(emp) else ownsTc c (chunkM gs.1 (xr c gs.2)) fullShare (Ac m gs.1 (lvl nA gs.1 gs.2) c (xr c gs.2))
  else iprop(emp)
/-- The sender's side of a transfer: to be issued, issued, back. -/
def sndAt (nS nW : ℕ) (i : T) : sProp 𝕄 :=
  if posD i < nW then iprop(atPos ER (xCell false c i) 1 ∅ 0 ∗ sndPay c i)
  else if posS i < nS then iprop(cred (tallyAt (xCell false c i) () (N i.1)) ∗ atPos ER (xCell false c i) 0 ∅ 0)
  else iprop(dutyTok ER (xCell false c i) 0 0 ∗ dutyTok ER (xCell true (xr c (mm i)) i) 0 0 ∗ slotSome (xr c (mm i)) i ∗ atPos ER (xCell false c i) 0 ∅ 0)
/-- The receiver's side of a transfer: awaited, landed. -/
def rcvAt (nR : ℕ) (i : T) : sProp 𝕄 :=
  if posR i < nR then iprop(atPos ER (xCell true c i) 1 ∅ 0 ∗ rcvPay m c i)
  else iprop(cred (tallyAt (xCell true c i) () (N i.1)) ∗ atPos ER (xCell true c i) 0 ∅ 0)
/-- What the kernel writes in a column group. -/
def outG (g : Fin 3) : (Sc g).Idx → Elt F .f32 :=
  match g with
  | 0 => k0_pay30 (k0_pay27 (Ac m 0 3 c (xr c 0))) (k0_pay28 (Ac m 0 3 c (xr c 0))) k0_pay29
  | 1 => k0_pay33 (Ac m 1 3 c (xr c 0))
  | 2 => k0_pay35 (Ac m 2 3 c (xr c 0))
def outHeld (nO : ℕ) : sProp 𝕄 :=
  iprop(∃ f : oM.view.ty.Contents (Elt F), ⌜∀ g : Fin 3, g.val < nO → (oM.access (colR g)).read (Elt F) f = outG m c g⌝ ∗ (oM.view.loc (c : Thread nD τ) ↦[oM.view.set]{fullShare} f))
def owedS (nS : ℕ) : sProp 𝕄 := iprop(∃ W, owes (c : Thread nD τ) (Owed c nS) W)

def St (nC nS nR nA nW nO : ℕ) : sProp 𝕄 :=
  iprop(records m K ∗ atPos ER (barCell c) 1 ∅ 0 ∗ ownsTc c xM fullShare (xst m c) ∗ ownsTc c wM fullShare (wst m c) ∗ outHeld m c nO ∗ owedS c nS
    ∗ bigSep Finset.univ (accAt c nC) ∗ bigSep Finset.univ (chunkAt m c nC nS nA) ∗ bigSep Finset.univ (sndAt c nS nW) ∗ bigSep Finset.univ (rcvAt m c nR))

variable {α : Type} {Q : α → sProp (MT nD τ sig Unit (Elt F) ℕ UU ℕ)}
variable {nC nS nR nA nW nO : ℕ}

theorem exec_bind {β : Type} (p : Prog (TpuEff nD τ sig (Elt F) Λ₀ .tc) β) (k : β → Prog (TpuEff nD τ sig (Elt F) Λ₀ .tc) α) :
    exec c (p >>= k) Q = exec c p fun a => exec c (k a) Q := wp_bind ..

theorem ret_step {P : sProp 𝕄} {v : α} (h : P ⊢ Q v) : P ⊢ exec c (Prog.ret v) Q := by
  show P ⊢ wp _ _ _ _ _
  rw [wp_ret]; exact h.trans (by iintro H; imodintro; iexact H)

/-! ## The transfers -/

/-- Issuing a transfer: its chunk leaves for the partner's slot. -/
theorem send_step (i : T) {n : Dev nD → Dev nD} (hn : ∀ d, n d = xr d (mm i)) (hS : posS i = nS) (hC : i.1.val < nC)
    (hl : lvl nA i.1 (src i.1 i.2) = step i.2) (hg : ¬ Gone nS i.1 (src i.1 i.2))
    (hG : ∀ (g : Fin 3) (s : Fin 8), (g, s) ≠ (i.1, src i.1 i.2) → (Gone nS g s ↔ Gone (nS + 1) g s))
    (hmk : mk i.1 (step i.2) ^^^ tgt i.1 i.2 = src i.1 i.2)
    {off : Dev nD → Fin 2 → ℕ} (ho : ∀ d, off d = ![128 * (xr d (src i.1 i.2)).val, 0])
    {inb : ∀ a, off c a + (Sc i.1).size a ≤ (Sa i.1).size a} {hu} {s₁ s₂ : DmaSem sig} (h₁ : s₁ = xS false i) (h₂ : s₂ = xS true i)
    {dst : Memref sig .tc .vmem (Sc i.1) .f32} (hd : dst = bufM i) {hsc hsrc hdst hsem}
    {k : PUnit → Prog (TpuEff nD τ sig (Elt F) Λ₀ .tc) α} (hk : St m K c nC (nS + 1) nR nA 0 nO ⊢ exec c (k ⟨⟩) Q) :
    St m K c nC nS nR nA 0 nO ⊢ exec c (.op (.enqueueDma ((accM i.1).slice (Rect.unit (s := Sa i.1) (off c) (Sc i.1).size inb) hu)
      (.remote (Dev.tc (n c) : Thread nD τ) dst (.dma s₁) hsc) (.dma s₂) hsrc hdst hsem) k) Q := by
  obtain ⟨r, hr⟩ : ∃ r, r = n c := ⟨_, rfl⟩
  obtain ⟨o, ho'⟩ : ∃ o, o = off c := ⟨_, rfl⟩
  revert hsc hsrc hdst hsem inb hu
  rw [← hr, ← ho']
  rw [hn] at hr; rw [ho] at ho'
  subst hr ho' h₁ h₂ hd hS
  intro inb hu hsc hsrc hdst hsem
  unfold St
  iintro ⟨#HK, Hb, Hx, Hw, HO, Ho, HA, HC, HS, HR⟩
  unfold owedS
  icases Ho with ⟨%W, Ho⟩
  ihave H := (bigSep_move (Φ := chunkAt m c nC (posS i) nA) (Ψ := chunkAt m c nC (posS i + 1) nA) (i.1, src i.1 i.2) fun gs hgs => by
    unfold chunkAt; simp only [hG gs.1 gs.2 hgs]) $$ HC
  icases H with ⟨Hc, HC⟩
  ihave H := (bigSep_move (Φ := sndAt c (posS i) 0) (Ψ := sndAt c (posS i + 1) 0) i fun j hj => by
    have := mt (posS_inj j i) hj
    unfold sndAt; simp only [show posS j < posS i + 1 ↔ posS j < posS i by omega]) $$ HS
  icases H with ⟨Hs, HS⟩
  ihave Hs := (show sndAt (F := F) c (posS i) 0 i ⊢ iprop(dutyTok ER (xCell false c i) 0 0 ∗ dutyTok ER (xCell true (xr c (mm i)) i) 0 0 ∗ slotSome (xr c (mm i)) i ∗ atPos ER (xCell false c i) 0 ∅ 0) by
    unfold sndAt; rw [if_neg (Nat.not_lt_zero _), if_neg (Nat.lt_irrefl _)]) $$ Hs
  unfold slotSome
  icases Hs with ⟨Ht₁, Ht₂, ⟨%X, Hd⟩, Hat⟩
  ihave Hd := (owns_open (xr c (mm i)) (bufM i) X) $$ Hd
  icases Hd with ⟨%fd, %hfd, Hd⟩
  ihave Hc := (show chunkAt m c nC (posS i) nA (i.1, src i.1 i.2) ⊢ ownsTc c (chunkM i.1 (xr c (src i.1 i.2))) fullShare (Ac m i.1 (step i.2) c (xr c (src i.1 i.2))) by
    unfold chunkAt; rw [if_pos hC, if_neg hg, hl]) $$ Hc
  ihave Hc := (owns_open c (chunkM i.1 (xr c (src i.1 i.2))) _) $$ Hc
  icases Hc with ⟨%fs, %hfs, Hc⟩
  ihave H₁ := (records_cell m K (c, some (false, i))) $$ HK
  icases H₁ with ⟨#HI₁, #HR₁⟩
  ihave H₂ := (records_cell m K (xr c (mm i), some (true, i))) $$ HK
  icases H₂ with ⟨#HI₂, #HR₂⟩
  iapply (Rounds.wp_send_pointsTo 𝒱₀ ER (Rd m) (c : Thread nD τ) none (κ₁ := K (c, some (false, i))) (κ₂ := K (xr c (mm i), some (true, i)))
    (r₁ := 0) (r₂ := 0) (d₁ := 0) (d₂ := 0) (fd := fd) (fs := fs) (q := fullShare)
    (by rw [duties_x]; exact Finset.mem_singleton_self _) (by rw [duties_x]; exact Finset.mem_singleton_self _)
    () () (N i.1) (by exact N_buf i) (amount_x m c false i 0) (amount_x m (xr c (mm i)) true i 0) (Owed c (posS i + 1)) (Owed_send c i) (W := W)
    (by rw [payload_snd]; unfold sndPay
        refine (owns_intro (c : Thread nD τ) (chunkM i.1 (xr c (src i.1 i.2))) fullShare fs).trans ?_
        iintro H; iexists _; iexact H)
    (by rw [payload_rcv]; unfold rcvPay
        refine (owns_intro (xr c (mm i) : Thread nD τ) (bufM i) fullShare _).trans (Entails.of_eq ?_)
        rw [View.read_write_univ]
        show owns _ _ _ ((chunkM i.1 (xr c (src i.1 i.2))).view.read (Elt F) fs) = _
        rw [hfs]; unfold landed; rw [xr_self, xr_xr]; unfold mm; rw [hmk])) $$ [Hc Hd Ho Ht₁ Ht₂]
  · isplitr; · iexact HI₁
    isplitr; · iexact HI₂
    isplitl [Hc]; · iexact Hc
    isplitl [Hd]; · iexact Hd
    isplitl [Ho]; · iexact Ho
    isplitl [Ht₁]; · iexact Ht₁
    isplitr; · iexact HR₁
    isplitl [Ht₂]; · iexact Ht₂
    iexact HR₂
  iintro ⟨Hcr, Ho⟩
  iapply hk
  unfold St owedS
  isplitr; · iexact HK
  isplitl [Hb]; · iexact Hb
  isplitl [Hx]; · iexact Hx
  isplitl [Hw]; · iexact Hw
  isplitl [HO]; · iexact HO
  isplitl [Ho]; · iexists W; iexact Ho
  isplitl [HA]; · iexact HA
  isplitl [HC]
  · iapply HC
    unfold chunkAt; rw [if_pos hC, if_pos ⟨i.2, rfl, Nat.lt_succ_self _⟩]; iempintro
  isplitr [HR]
  · iapply HS
    unfold sndAt; rw [if_neg (Nat.not_lt_zero _), if_pos (Nat.lt_succ_self _)]
    isplitl [Hcr] <;> iassumption
  iexact HR

/-- Waiting for a transfer's landing: the slot at what landed. -/
theorem recv_step (i : T) (hR : posR i = nR) (hmay : ∀ j : T, nS ≤ posS j → 2 + step i.2 < 2 + step j.2)
    {s : DmaSem sig} (hs : s = xS true i) {sp sp' : Space} {sh sh' : Shape} {e e' : EltTy} {src : Memref sig .tc sp sh e} {dst : Memref sig .tc sp' sh' e'} (hN : dst.view.dmaCredit = N i.1) {h h'}
    {k : PUnit → Prog (TpuEff nD τ sig (Elt F) Λ₀ .tc) α} (hk : St m K c nC nS (nR + 1) nA nW nO ⊢ exec c (k ⟨⟩) Q) :
    St m K c nC nS nR nA nW nO ⊢ exec c (.op (.waitDma2 s src dst h h') k) Q := by
  subst hs hR
  unfold St
  iintro ⟨#HK, Hb, Hx, Hw, HO, Ho, HA, HC, HS, HR⟩
  unfold owedS
  icases Ho with ⟨%W, Ho⟩
  ihave H := (bigSep_move (Φ := rcvAt m c (posR i)) (Ψ := rcvAt m c (posR i + 1)) i fun j hj => by
    have := mt (posR_inj j i) hj
    unfold rcvAt; simp only [show posR j < posR i + 1 ↔ posR j < posR i by omega]) $$ HR
  icases H with ⟨Hr, HR⟩
  ihave Hr := (show rcvAt m c (posR i) i ⊢ iprop(cred (tallyAt (xCell true c i) () (N i.1)) ∗ atPos ER (xCell true c i) 0 ∅ 0) by
    unfold rcvAt; rw [if_neg (Nat.lt_irrefl _)]) $$ Hr
  icases Hr with ⟨Hcr, Hat⟩
  ihave H₁ := (records_cell m K (c, some (true, i))) $$ HK
  icases H₁ with ⟨#HI₁, -⟩
  rw [← hN]
  iapply (Rounds.wp_wait_rest_token 𝒱₀ ER (Rd m) (c : Thread nD τ) none (κ := K (c, some (true, i)))
    (wpE_waitDma2_eq 𝒱₀ (c : Thread nD τ) none Set.univ) (Set.mem_univ _) () (O := Owed c nS) (W := W) (R := 0) (m := 0) (T := ∅)
    (by rw [Nat.zero_add, expect_x, hN])) $$ [Hcr Ho Hat]
  · isplitr; · iexact HI₁
    isplitl [Hcr]; · iexact Hcr
    isplitl [Ho]; · iexact Ho
    isplitr
    · iapply (mayWait_owed c (.dma (xS true i)) nS fun j hj => by rw [lev_rcv]; exact hmay j hj)
      iapply (records_lev m K); iexact HK
    iexact Hat
  iintro ⟨Ho, Hat, -, Hpay⟩
  ihave Hp := (Entails.of_eq (rest_rcv m c i)) $$ Hpay
  iapply hk
  unfold St owedS
  isplitr; · iexact HK
  isplitl [Hb]; · iexact Hb
  isplitl [Hx]; · iexact Hx
  isplitl [Hw]; · iexact Hw
  isplitl [HO]; · iexact HO
  isplitl [Ho]; · iexists _; iexact Ho
  isplitl [HA]; · iexact HA
  isplitl [HC]; · iexact HC
  isplitl [HS]; · iexact HS
  iapply HR
  unfold rcvAt; rw [if_pos (Nat.lt_succ_self _)]
  isplitl [Hat] <;> iassumption

/-- Waiting for an own transfer, all being issued: its chunk is back. -/
theorem done_step (i : T) (hD : posD i = nW) {s : DmaSem sig} (hs : s = xS false i)
    {sp sp' : Space} {sh sh' : Shape} {e e' : EltTy} {src : Memref sig .tc sp sh e} {dst : Memref sig .tc sp' sh' e'} (hN : dst.view.dmaCredit = N i.1) {h h'}
    {k : PUnit → Prog (TpuEff nD τ sig (Elt F) Λ₀ .tc) α} (hk : St m K c nC 21 nR nA (nW + 1) nO ⊢ exec c (k ⟨⟩) Q) :
    St m K c nC 21 nR nA nW nO ⊢ exec c (.op (.waitDma2 s src dst h h') k) Q := by
  subst hs hD
  unfold St
  iintro ⟨#HK, Hb, Hx, Hw, HO, Ho, HA, HC, HS, HR⟩
  unfold owedS
  icases Ho with ⟨%W, Ho⟩
  ihave H := (bigSep_move (Φ := sndAt c 21 (posD i)) (Ψ := sndAt c 21 (posD i + 1)) i fun j hj => by
    have := mt (posD_inj j i) hj
    unfold sndAt; simp only [show posD j < posD i + 1 ↔ posD j < posD i by omega]) $$ HS
  icases H with ⟨Hs, HS⟩
  ihave Hs := (show sndAt (F := F) c 21 (posD i) i ⊢ iprop(cred (tallyAt (xCell false c i) () (N i.1)) ∗ atPos ER (xCell false c i) 0 ∅ 0) by
    unfold sndAt; rw [if_neg (Nat.lt_irrefl _), if_pos (posS_lt i)]) $$ Hs
  icases Hs with ⟨Hcr, Hat⟩
  ihave H₁ := (records_cell m K (c, some (false, i))) $$ HK
  icases H₁ with ⟨#HI₁, -⟩
  rw [← hN]
  iapply (Rounds.wp_wait_rest_token 𝒱₀ ER (Rd m) (c : Thread nD τ) none (κ := K (c, some (false, i)))
    (wpE_waitDma2_eq 𝒱₀ (c : Thread nD τ) none Set.univ) (Set.mem_univ _) () (O := Owed c 21) (W := W) (R := 0) (m := 0) (T := ∅)
    (by rw [Nat.zero_add, expect_x, hN])) $$ [Hcr Ho Hat]
  · isplitr; · iexact HI₁
    isplitl [Hcr]; · iexact Hcr
    isplitl [Ho]; · iexact Ho
    isplitr
    · iapply (mayWait_owed c (.dma (xS false i)) 21 fun j hj => absurd (posS_lt j) (by omega))
      iapply (records_lev m K); iexact HK
    iexact Hat
  iintro ⟨Ho, Hat, -, Hpay⟩
  ihave Hp := (Entails.of_eq (rest_snd m c i)) $$ Hpay
  iapply hk
  unfold St owedS
  isplitr; · iexact HK
  isplitl [Hb]; · iexact Hb
  isplitl [Hx]; · iexact Hx
  isplitl [Hw]; · iexact Hw
  isplitl [HO]; · iexact HO
  isplitl [Ho]; · iexists _; iexact Ho
  isplitl [HA]; · iexact HA
  isplitl [HC]; · iexact HC
  isplitr [HR]
  · iapply HS
    unfold sndAt; rw [if_pos (Nat.lt_succ_self _)]
    isplitl [Hat] <;> iassumption
  iexact HR

/-! ## The loads -/

theorem hz : (![0, 0] : Fin 2 → ℕ) = fun _ => 0 := funext fun a => by fin_cases a <;> rfl

/-- Loading the staged block of `x`. -/
theorem load_x {inb : ∀ a, (![0, 0] : Fin 2 → ℕ) a + S1024x128.size a ≤ S1024x128.size a} {hl}
    {k : (S1024x128.Idx → Elt F .f32) → Prog (TpuEff nD τ sig (Elt F) Λ₀ .tc) α} (hk : St m K c nC nS nR nA nW nO ⊢ exec c (k (xst m c)) Q) :
    St m K c nC nS nR nA nW nO ⊢ exec c (.op (.load xM (Rect.unit (s := S1024x128) ![0, 0] S1024x128.size inb).toLoadRect hl) k) Q := by
  have hr (f : (cc0_stg0_0 : Ref sig .tc).ty.Contents (Elt F)) : xM.view.readAt (Elt F) (Rect.unit (s := S1024x128) ![0, 0] S1024x128.size inb).toLoadRect f = f :=
    Memref.readAt_unit_zero (Elt F) cc0_stg0_0 hz _ f
  unfold St
  rw [show ownsTc c xM fullShare (xst m c) = _ from owns_whole (c : Thread nD τ) cc0_stg0_0 fullShare (xst m c)]
  iintro ⟨#HK, Hb, Hx, Hr⟩
  iapply (wp_load 𝒱₀ (c : Thread nD τ) none Set.univ (m := xM) (Finset.subset_univ _)) $$ Hx
  iintro Hx
  rw [hr]
  iapply hk
  unfold St
  rw [show ownsTc c xM fullShare (xst m c) = _ from owns_whole (c : Thread nD τ) cc0_stg0_0 fullShare (xst m c)]
  isplitr; · iexact HK
  isplitl [Hb]; · iexact Hb
  isplitl [Hx] <;> iassumption

/-- Loading a column group of the staged block of `w_mat`. -/
theorem load_w (g : Fin 3) {inb : ∀ a, (![0, off g] : Fin 2 → ℕ) a + (Sc g).size a ≤ S128x1024.size a} {hl}
    {k : ((Sc g).Idx → Elt F .f32) → Prog (TpuEff nD τ sig (Elt F) Λ₀ .tc) α} (hk : St m K c nC nS nR nA nW nO ⊢ exec c (k (wcol m c g)) Q) :
    St m K c nC nS nR nA nW nO ⊢ exec c (.op (.load wM (Rect.unit (s := S128x1024) ![0, off g] (Sc g).size inb).toLoadRect hl) k) Q := by
  unfold St
  rw [show ownsTc c wM fullShare (wst m c) = _ from owns_whole (c : Thread nD τ) cc0_stg1_0 fullShare (wst m c)]
  iintro ⟨#HK, Hb, Hx, Hw, Hr⟩
  iapply (wp_load 𝒱₀ (c : Thread nD τ) none Set.univ (m := wM) (Finset.subset_univ _)) $$ Hw
  iintro Hw
  iapply hk
  unfold St
  rw [show ownsTc c wM fullShare (wst m c) = _ from owns_whole (c : Thread nD τ) cc0_stg1_0 fullShare (wst m c)]
  isplitr; · iexact HK
  isplitl [Hb]; · iexact Hb
  isplitl [Hx]; · iexact Hx
  isplitl [Hw] <;> iassumption

/-- Loading an accumulator not computed yet: any value. -/
theorem load_acc (g : Fin 3) (hC : nC ≤ g.val) {r : Rect (Sa g)} {hl}
    {k : (r.shape.Idx → Elt F .f32) → Prog (TpuEff nD τ sig (Elt F) Λ₀ .tc) α} (hk : ∀ v, St m K c nC nS nR nA nW nO ⊢ exec c (k v) Q) :
    St m K c nC nS nR nA nW nO ⊢ exec c (.op (.load (accM g) r.toLoadRect hl) k) Q := by
  unfold St
  iintro ⟨#HK, Hb, Hx, Hw, HO, Ho, HA, Hr⟩
  ihave H := (bigSep_move (Φ := accAt c nC) (Ψ := accAt c nC) g fun _ _ => rfl) $$ HA
  icases H with ⟨Ha, HA⟩
  have ha : accAt (F := F) c nC g = iprop(∃ X, ownsTc c (accM g) fullShare X) := if_neg (by omega)
  ihave Ha := (Entails.of_eq ha) $$ Ha
  icases Ha with ⟨%X, Ha⟩
  ihave Ha := (owns_open c (accM g) X) $$ Ha
  icases Ha with ⟨%f, %hf, Ha⟩
  iapply (wp_load 𝒱₀ (c : Thread nD τ) none Set.univ (m := accM g) (View.setOn_subset_set _ _)) $$ Ha
  iintro Ha
  iapply (hk _)
  unfold St
  isplitr; · iexact HK
  isplitl [Hb]; · iexact Hb
  isplitl [Hx]; · iexact Hx
  isplitl [Hw]; · iexact Hw
  isplitl [HO]; · iexact HO
  isplitl [Ho]; · iexact Ho
  isplitl [Ha HA]
  · iapply HA; iapply (Entails.of_eq ha.symm); iexists X; iapply (owns_shut c (accM g) hf); iexact Ha
  iexact Hr

/-- Loading a chunk the device holds. -/
theorem load_chunk (g : Fin 3) (s : Fin 8) (t : ℕ) (hC : g.val < nC) (hg : ¬ Gone nS g s) (hl : lvl nA g s = t)
    {off : Dev nD → Fin 2 → ℕ} (ho : ∀ d, off d = ![128 * (xr d s).val, 0]) {inb : ∀ a, off c a + (Sc g).size a ≤ (Sa g).size a} {hl'}
    {k : ((Sc g).Idx → Elt F .f32) → Prog (TpuEff nD τ sig (Elt F) Λ₀ .tc) α} (hk : St m K c nC nS nR nA nW nO ⊢ exec c (k (Ac m g t c (xr c s))) Q) :
    St m K c nC nS nR nA nW nO ⊢ exec c (.op (.load (accM g) (Rect.unit (s := Sa g) (off c) (Sc g).size inb).toLoadRect hl') k) Q := by
  obtain ⟨o, ho'⟩ : ∃ o, o = off c := ⟨_, rfl⟩
  revert inb hl'
  rw [← ho']
  rw [ho] at ho'
  subst ho'
  intro inb hl'
  unfold St
  iintro ⟨#HK, Hb, Hx, Hw, HO, Ho, HA, HC, Hr⟩
  ihave H := (bigSep_move (Φ := chunkAt m c nC nS nA) (Ψ := chunkAt m c nC nS nA) (g, s) fun _ _ => rfl) $$ HC
  icases H with ⟨Hc, HC⟩
  have hc : chunkAt m c nC nS nA (g, s) = ownsTc c (chunkM g (xr c s)) fullShare (Ac m g t c (xr c s)) := by
    unfold chunkAt; rw [if_pos hC, if_neg hg, hl]
  ihave Hc := (Entails.of_eq hc) $$ Hc
  ihave Hc := (chunk_open c g (xr c s) _) $$ Hc
  icases Hc with ⟨%f, %hf, Hc⟩
  iapply (wp_load_rect 𝒱₀ (c : Thread nD τ) none Set.univ (m := accM g) (r := rowR g (xr c s)) (f := f) (Finset.Subset.refl _)) $$ Hc
  iintro Hc
  rw [show ((accM g).access (rowR g (xr c s))).read (Elt F) f = Ac m g t c (xr c s) from hf]
  iapply hk
  unfold St
  isplitr; · iexact HK
  isplitl [Hb]; · iexact Hb
  isplitl [Hx]; · iexact Hx
  isplitl [Hw]; · iexact Hw
  isplitl [HO]; · iexact HO
  isplitl [Ho]; · iexact Ho
  isplitl [HA]; · iexact HA
  isplitl [Hc HC]
  · iapply HC; iapply (Entails.of_eq hc.symm); iapply (chunk_shut c g (xr c s) hf); iexact Hc
  iexact Hr

/-- Loading a slot after its landing: what landed, in the slot's layout. -/
theorem load_slot (i : T) (hR : posR i < nR) {inb : ∀ a, (![i.2.val, 0, 0] : Fin 3 → ℕ) a + (Ss i.1).size a ≤ (Sb i.1).size a} {hl}
    {k : ((Ss i.1).Idx → Elt F .f32) → Prog (TpuEff nD τ sig (Elt F) Λ₀ .tc) α}
    (hk : ∀ V : (Ss i.1).Idx → Elt F .f32, (∀ h, shapeCast (Sc i.1) V h = landed m c i) → St m K c nC nS nR nA nW nO ⊢ exec c (k V) Q) :
    St m K c nC nS nR nA nW nO ⊢ exec c (.op (.load (bufA i.1) (Rect.unit (s := Sb i.1) ![i.2.val, 0, 0] (Ss i.1).size inb).toLoadRect hl) k) Q := by
  unfold St
  iintro ⟨#HK, Hb, Hx, Hw, HO, Ho, HA, HC, HS, HR⟩
  ihave H := (bigSep_move (Φ := rcvAt m c nR) (Ψ := rcvAt m c nR) i fun _ _ => rfl) $$ HR
  icases H with ⟨Hr, HR⟩
  have hr : rcvAt m c nR i = iprop(atPos ER (xCell true c i) 1 ∅ 0 ∗ ownsTc c (bufM i) fullShare (landed m c i)) := if_pos hR
  ihave Hr := (Entails.of_eq hr) $$ Hr
  icases Hr with ⟨Hat, Hc⟩
  ihave Hc := (slot_open c i _) $$ Hc
  icases Hc with ⟨%f, %hf, Hc⟩
  iapply (wp_load_rect 𝒱₀ (c : Thread nD τ) none Set.univ (m := bufA i.1) (r := slotR i.1 i.2) (f := f) (Finset.Subset.refl _)) $$ Hc
  iintro Hc
  iapply (hk (((bufA i.1).access (slotR i.1 i.2)).read (Elt F) f) fun h => hf)
  unfold St
  isplitr; · iexact HK
  isplitl [Hb]; · iexact Hb
  isplitl [Hx]; · iexact Hx
  isplitl [Hw]; · iexact Hw
  isplitl [HO]; · iexact HO
  isplitl [Ho]; · iexact Ho
  isplitl [HA]; · iexact HA
  isplitl [HC]; · iexact HC
  isplitl [HS]; · iexact HS
  iapply HR; iapply (Entails.of_eq hr.symm)
  isplitl [Hat]; · iexact Hat
  iapply (slot_shut c i hf); iexact Hc

/-- Loading the result's buffer: any value. -/
theorem load_out {r : Rect S128x1024} {hl}
    {k : (r.shape.Idx → Elt F .f32) → Prog (TpuEff nD τ sig (Elt F) Λ₀ .tc) α} (hk : ∀ v, St m K c nC nS nR nA nW nO ⊢ exec c (k v) Q) :
    St m K c nC nS nR nA nW nO ⊢ exec c (.op (.load oM r.toLoadRect hl) k) Q := by
  unfold St outHeld
  iintro ⟨#HK, Hb, Hx, Hw, ⟨%f, %hf, HO⟩, Hr⟩
  iapply (wp_load 𝒱₀ (c : Thread nD τ) none Set.univ (m := oM) (View.setOn_subset_set _ _)) $$ HO
  iintro HO
  iapply (hk _)
  unfold St outHeld
  isplitr; · iexact HK
  isplitl [Hb]; · iexact Hb
  isplitl [Hx]; · iexact Hx
  isplitl [Hw]; · iexact Hw
  isplitl [HO]
  · iexists f; isplitr
    · ipureintro; exact hf
    · iexact HO
  iexact Hr

/-! ## The stores -/

theorem row_disjoint (g : Fin 3) (r r' : Dev nD) (h : r ≠ r') : Disjoint (rowR g r).set (rowR g r').set :=
  Rect.unit_disjoint 0 (by
    have : r.val ≠ r'.val := fun e => h (Fin.ext e)
    show 128 * r.val + 128 ≤ 128 * r'.val ∨ 128 * r'.val + 128 ≤ 128 * r.val
    omega)
theorem row_cover (g : Fin 3) : ∀ j : (Sa g).Idx, ∃ r : Dev nD, j ∈ (rowR g r).set := fun j => by
  have h0 : (j 0).val < 1024 := (j 0).isLt
  refine ⟨⟨(j 0).val / 128, by show _ < 8; omega⟩, Rect.mem_set_unit.mpr fun a => ?_⟩
  match a with
  | ⟨0, _⟩ =>
    show 128 * ((j 0).val / 128) ≤ (j 0).val ∧ (j 0).val < 128 * ((j 0).val / 128) + 128
    omega
  | ⟨1, _⟩ => exact ⟨Nat.zero_le _, by show (j 1).val < 0 + wd g; rw [Nat.zero_add]; exact (j 1).isLt⟩

theorem rows_cover (g : Fin 3) (d : Dev nD) : (Finset.univ.biUnion fun s : Fin 8 => (rowR g (xr d s)).set) = Finset.univ :=
  Finset.eq_univ_iff_forall.mpr fun j => by
    obtain ⟨r, hr⟩ := row_cover g j
    obtain ⟨s, rfl⟩ := xr_surj d r
    exact Finset.mem_biUnion.mpr ⟨s, Finset.mem_univ _, hr⟩
theorem rows_disjoint (g : Fin 3) (d : Dev nD) (s s' : Fin 8) (h : s ≠ s') : Disjoint (rowR g (xr d s)).set (rowR g (xr d s')).set :=
  row_disjoint g _ _ fun e => h (xr_inj d s s' e)

theorem write_acc (g : Fin 3) {inb : ∀ a, (![0, 0] : Fin 2 → ℕ) a + (Sa g).size a ≤ (Sa g).size a} (f : (accM g).view.ty.Contents (Elt F)) (w : (Sa g).Idx → Elt F .f32) :
    (accM g).view.read (Elt F) (((accM g).access (Rect.unit (s := Sa g) ![0, 0] (Sa g).size inb)).write (Elt F) f w Finset.univ) = w := by
  match g with
  | 0 => exact (View.read_whole (Val := Elt F) cc0_scratch0 _).trans (Memref.write_access_unit_zero_univ (Elt F) cc0_scratch0 hz _ f w)
  | 1 => exact (View.read_whole (Val := Elt F) cc0_scratch1 _).trans (Memref.write_access_unit_zero_univ (Elt F) cc0_scratch1 hz _ f w)
  | 2 => exact (View.read_whole (Val := Elt F) cc0_scratch2 _).trans (Memref.write_access_unit_zero_univ (Elt F) cc0_scratch2 hz _ f w)

/-- Storing a group's partial product: its accumulator is now held by chunks. -/
theorem store_acc (g : Fin 3) (hC : nC = g.val) (hg : ∀ s, ¬ Gone nS g s) {w : (Sa g).Idx → Elt F .f32} (hw : w = prod m c g)
    {inb : ∀ a, (![0, 0] : Fin 2 → ℕ) a + (Sa g).size a ≤ (Sa g).size a} {hx hm}
    {k : PUnit → Prog (TpuEff nD τ sig (Elt F) Λ₀ .tc) α} (hk : St m K c (nC + 1) nS nR 0 nW nO ⊢ exec c (k ⟨⟩) Q) :
    St m K c nC nS nR 0 nW nO ⊢ exec c (.op (.store (accM g) (Rect.unit (s := Sa g) ![0, 0] (Sa g).size inb) w Finset.univ hx hm) k) Q := by
  subst hC hw
  unfold St
  iintro ⟨#HK, Hb, Hx, Hw, HO, Ho, HA, HC, Hr⟩
  ihave H := (bigSep_move (Φ := accAt c g.val) (Ψ := accAt c (g.val + 1)) g fun j hj => by
    have : j.val ≠ g.val := fun e => hj (Fin.ext e)
    unfold accAt; simp only [show j.val < g.val + 1 ↔ j.val < g.val by omega]) $$ HA
  icases H with ⟨Ha, HA⟩
  have ha : accAt (F := F) c g.val g = iprop(∃ X, ownsTc c (accM g) fullShare X) := if_neg (Nat.lt_irrefl _)
  have ha' : accAt (F := F) c (g.val + 1) g = iprop(emp) := if_pos (Nat.lt_succ_self _)
  ihave Ha := (Entails.of_eq ha) $$ Ha
  icases Ha with ⟨%X, Ha⟩
  ihave Ha := (owns_open c (accM g) X) $$ Ha
  icases Ha with ⟨%f, %hf, Ha⟩
  iapply (wp_store 𝒱₀ (c : Thread nD τ) none Set.univ (m := accM g) (r := Rect.unit (s := Sa g) ![0, 0] (Sa g).size inb) (Mk := Finset.univ)
    (S := (accM g).view.set) (f := f) ((View.setOn_subset_set _ _).trans (View.set_slice_subset _ _))) $$ Ha
  iintro Ha
  ihave Ha := (owns_shut c (accM g) (write_acc g f (prod m c g))) $$ Ha
  ihave Ha := (owns_rects (c : Thread nD τ) (accM g) fullShare (fun s : Fin 8 => rowR g (xr c s)) (fun _ _ => rfl) (rows_disjoint g c) (rows_cover g c) (prod m c g)) $$ Ha
  ihave HC := (Entails.of_eq (bigSep_univ_prod (chunkAt m c g.val nS 0))) $$ HC
  ihave H := (bigSep_move (Φ := fun g' => bigSep Finset.univ fun s => chunkAt m c g.val nS 0 (g', s)) (Ψ := fun g' => bigSep Finset.univ fun s => chunkAt m c (g.val + 1) nS 0 (g', s)) g fun j hj => by
    have : j.val ≠ g.val := fun e => hj (Fin.ext e)
    unfold chunkAt; simp only [show j.val < g.val + 1 ↔ j.val < g.val by omega]) $$ HC
  icases H with ⟨-, HC⟩
  iapply hk
  unfold St
  rw [bigSep_univ_prod (chunkAt m c (g.val + 1) nS 0)]
  isplitr; · iexact HK
  isplitl [Hb]; · iexact Hb
  isplitl [Hx]; · iexact Hx
  isplitl [Hw]; · iexact Hw
  isplitl [HO]; · iexact HO
  isplitl [Ho]; · iexact Ho
  isplitl [HA]; · iapply HA; iapply (Entails.of_eq ha'.symm); iempintro
  isplitl [Ha HC]
  · iapply HC
    rw [show (fun s => chunkAt m c (g.val + 1) nS 0 (g, s)) = fun s => ownsTc c ((accM g).slice (rowR g (xr c s)) (fun _ => rfl)) fullShare (fun j => prod m c g ((rowR g (xr c s)).emb j)) from
      funext fun s => by unfold chunkAt; rw [if_pos (Nat.lt_succ_self _), if_neg (hg s), lvl_zero]; rfl]
    iexact Ha
  iexact Hr

/-- Storing a chunk with what landed added. -/
theorem store_chunk (i : T) (hC : i.1.val < nC) (hA : posR i = nA) (hg : ¬ Gone nS i.1 (tgt i.1 i.2))
    {w : (Sc i.1).Idx → Elt F .f32} (hw : w = Ac m i.1 (step i.2 + 1) c (xr c (tgt i.1 i.2)))
    {off : Dev nD → Fin 2 → ℕ} (ho : ∀ d, off d = ![128 * (xr d (tgt i.1 i.2)).val, 0]) {inb : ∀ a, off c a + (Sc i.1).size a ≤ (Sa i.1).size a} {hx hm}
    {k : PUnit → Prog (TpuEff nD τ sig (Elt F) Λ₀ .tc) α} (hk : St m K c nC nS nR (nA + 1) nW nO ⊢ exec c (k ⟨⟩) Q) :
    St m K c nC nS nR nA nW nO ⊢ exec c (.op (.store (accM i.1) (Rect.unit (s := Sa i.1) (off c) (Sc i.1).size inb) w Finset.univ hx hm) k) Q := by
  obtain ⟨o, ho'⟩ : ∃ o, o = off c := ⟨_, rfl⟩
  revert inb hx hm
  rw [← ho']
  rw [ho] at ho'
  subst ho' hA
  intro inb hx hm
  unfold St
  iintro ⟨#HK, Hb, Hx, Hw, HO, Ho, HA, HC, Hr⟩
  ihave H := (bigSep_move (Φ := chunkAt m c nC nS (posR i)) (Ψ := chunkAt m c nC nS (posR i + 1)) (i.1, tgt i.1 i.2) fun gs hgs => by
    unfold chunkAt; rw [lvl_other i gs.1 gs.2 fun h => hgs (Prod.ext h.1 h.2)]) $$ HC
  icases H with ⟨Hc, HC⟩
  have hc : chunkAt m c nC nS (posR i) (i.1, tgt i.1 i.2) = ownsTc c (chunkM i.1 (xr c (tgt i.1 i.2))) fullShare (Ac m i.1 (step i.2) c (xr c (tgt i.1 i.2))) := by
    unfold chunkAt; rw [if_pos hC, if_neg hg, lvl_add i]
  have hc' : chunkAt m c nC nS (posR i + 1) (i.1, tgt i.1 i.2) = ownsTc c (chunkM i.1 (xr c (tgt i.1 i.2))) fullShare w := by
    unfold chunkAt; rw [if_pos hC, if_neg hg, lvl_added i, hw]
  ihave Hc := (Entails.of_eq hc) $$ Hc
  ihave Hc := (chunk_open c i.1 (xr c (tgt i.1 i.2)) _) $$ Hc
  icases Hc with ⟨%f, %hf, Hc⟩
  iapply (wp_store 𝒱₀ (c : Thread nD τ) none Set.univ (m := accM i.1) (r := rowR i.1 (xr c (tgt i.1 i.2))) (Mk := Finset.univ)
    (f := f) (View.setOn_subset_set _ _)) $$ Hc
  iintro Hc
  iapply hk
  unfold St
  isplitr; · iexact HK
  isplitl [Hb]; · iexact Hb
  isplitl [Hx]; · iexact Hx
  isplitl [Hw]; · iexact Hw
  isplitl [HO]; · iexact HO
  isplitl [Ho]; · iexact Ho
  isplitl [HA]; · iexact HA
  isplitl [Hc HC]
  · iapply HC; iapply (Entails.of_eq hc'.symm); iapply (chunk_shut c i.1 (xr c (tgt i.1 i.2)) (View.read_write_univ ..)); iexact Hc
  iexact Hr

theorem col_disjoint (g g' : Fin 3) (h : g ≠ g') : Disjoint (colR g).set (colR g').set :=
  Rect.unit_disjoint 1 (by revert g g'; decide)

/-- Writing a column group of the result. -/
theorem store_out (g : Fin 3) (hO : nO = g.val) {w : (Sc g).Idx → Elt F .f32} (hw : w = outG m c g)
    {inb : ∀ a, (![0, off g] : Fin 2 → ℕ) a + (Sc g).size a ≤ S128x1024.size a} {hx hm}
    {k : PUnit → Prog (TpuEff nD τ sig (Elt F) Λ₀ .tc) α} (hk : St m K c nC nS nR nA nW (nO + 1) ⊢ exec c (k ⟨⟩) Q) :
    St m K c nC nS nR nA nW nO ⊢ exec c (.op (.store oM (Rect.unit (s := S128x1024) ![0, off g] (Sc g).size inb) w Finset.univ hx hm) k) Q := by
  unfold St outHeld
  iintro ⟨#HK, Hb, Hx, Hw, ⟨%f, %hf, HO⟩, Hr⟩
  iapply (wp_store 𝒱₀ (c : Thread nD τ) none Set.univ (m := oM) (r := colR g) (Mk := Finset.univ) (f := f)
    (by rw [show oM.view.set = Finset.univ from View.set_whole _]; exact Finset.subset_univ _)) $$ HO
  iintro HO
  iapply hk
  unfold St outHeld
  isplitr; · iexact HK
  isplitl [Hb]; · iexact Hb
  isplitl [Hx]; · iexact Hx
  isplitl [Hw]; · iexact Hw
  isplitl [HO]
  · iexists _; isplitr
    rotate_left
    · iexact HO
    · ipureintro
      intro g' hg'
      by_cases h : g' = g
      · subst h; rw [View.read_write_univ]; exact hw
      · rw [← hf g' (by have : g'.val ≠ g.val := fun e => h (Fin.ext e); omega)]
        exact View.read_slice_write_slice_of_disjoint _ _ _ _ _ (by
          rw [View.set_slice, View.setOn_univ, View.set_slice]; exact (Finset.disjoint_map _).mpr (col_disjoint g' g h))
  iexact Hr

end Cert.Exchange

end
-- ==== Proof.Walk.lean ====
/-
# The kernel's parts, one after the other

After the barrier every part of the kernel is a sequence of effects each with its rule; here each part is run from the
state it finds to the state it leaves.
-/
module

public import proofs.«01_k».proof.Proof.Steps
public import Idealize.ShloMosaic.Lib.Pipeline.Value

@[expose] public section

set_option backward.proofsInPublic true

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ) (c : Dev nD)

/-! ## Where the kernel's row offsets point -/

theorem off1_eq : ∀ (a b : Fin 8) (d : Dev nD), k0_off1 d (BitVec.ofNat 32 a.val) (BitVec.ofNat 32 b.val) = ![128 * (xr d (a ^^^ b)).val, 0] := by
  decide +kernel
theorem off2_eq : ∀ (a b : Fin 8) (d : Dev nD), k0_off2 d (BitVec.ofNat 32 a.val) (BitVec.ofNat 32 b.val) = ![128 * (xr d (a ^^^ b)).val, 0] := by
  decide +kernel
theorem off3_eq : ∀ (a : Fin 8) (d : Dev nD), k0_off3 d (BitVec.ofNat 32 a.val) = ![128 * (xr d a).val, 0] := by decide +kernel
theorem off4_eq : ∀ (a : Fin 8) (d : Dev nD), k0_off4 d (BitVec.ofNat 32 a.val) = ![128 * (xr d a).val, 0] := by decide +kernel
theorem off5_eq : ∀ d : Dev nD, k0_off5 d = ![128 * (xr d 0).val, 0] := by decide +kernel
theorem off6_eq : ∀ d : Dev nD, k0_off6 d = ![128 * (xr d 0).val, 0] := by decide +kernel

/-! ## The steps, their side conditions gathered -/

/-- A transfer's turn: it is the next one, its chunk is computed, has been added to as often as the exchanges before ask, and is here. -/
abbrev SendOk (i : T) (nC nS nA : ℕ) : Prop :=
  posS i = nS ∧ i.1.val < nC ∧ lvl nA i.1 (src i.1 i.2) = step i.2 ∧ ¬ Gone nS i.1 (src i.1 i.2)
    ∧ (∀ (g : Fin 3) (s : Fin 8), (g, s) ≠ (i.1, src i.1 i.2) → (Gone nS g s ↔ Gone (nS + 1) g s)) ∧ mk i.1 (step i.2) ^^^ tgt i.1 i.2 = src i.1 i.2

/-- A slot's contents are what landed there. -/
abbrev Lands (i : T) (V : (Ss i.1).Idx → Elt F .f32) : Prop := ∀ h, shapeCast (Sc i.1) V h = landed m c i

/-- A chunk at its value with what landed added is the chunk at its next value. -/
theorem add_landed (i : T) {V : (Ss i.1).Idx → Elt F .f32} (hV : Lands m c i V) (h : (Ss i.1).ShapeCasts (Sc i.1)) (h' : (Sc i.1).ShapeCasts (Sc i.1)) :
    shapeCast (Sc i.1) (addf (Ac m i.1 (step i.2) c (xr c (tgt i.1 i.2)) : FVec F (Sc i.1) .f32) (shapeCast (Sc i.1) V h)) h'
      = Ac m i.1 (step i.2 + 1) c (xr c (tgt i.1 i.2)) := by
  rw [shapeCast_self, hV]; rfl

variable {α : Type} {Q : α → sProp (MT nD τ sig Unit (Elt F) ℕ UU ℕ)}
variable {nC nS nR nA nW nO : ℕ}

theorem send (i : T) (hok : SendOk i nC nS nA) {n : Dev nD → Dev nD} (hn : ∀ d, n d = xr d (mm i))
    {off : Dev nD → Fin 2 → ℕ} (ho : ∀ d, off d = ![128 * (xr d (src i.1 i.2)).val, 0])
    {inb : ∀ a, off c a + (Sc i.1).size a ≤ (Sa i.1).size a} {hu} {s₁ s₂ : DmaSem sig} (h₁ : s₁ = xS false i) (h₂ : s₂ = xS true i)
    {dst : Memref sig .tc .vmem (Sc i.1) .f32} (hd : dst = bufM i) {hsc hsrc hdst hsem}
    {k : PUnit → Prog (TpuEff nD τ sig (Elt F) Λ₀ .tc) α} (hk : St m K c nC (nS + 1) nR nA 0 nO ⊢ exec c (k ⟨⟩) Q) :
    St m K c nC nS nR nA 0 nO ⊢ exec c (.op (.enqueueDma ((accM i.1).slice (Rect.unit (s := Sa i.1) (off c) (Sc i.1).size inb) hu)
      (.remote (Dev.tc (n c) : Thread nD τ) dst (.dma s₁) hsc) (.dma s₂) hsrc hdst hsem) k) Q :=
  send_step m K c i hn hok.1 hok.2.1 hok.2.2.1 hok.2.2.2.1 hok.2.2.2.2.1 hok.2.2.2.2.2 ho h₁ h₂ hd hk

/-- A landing's turn: its chunk is computed, is here, has been added to as often as the exchanges before ask, and is the next to be added to. -/
abbrev AddOk (i : T) (nC nS nA : ℕ) : Prop :=
  i.1.val < nC ∧ posR i = nA ∧ ¬ Gone nS i.1 (tgt i.1 i.2) ∧ lvl nA i.1 (tgt i.1 i.2) = step i.2

/-- A wait's turn: it is the next one, and everything still to be signalled lies in later exchanges. -/
abbrev RecvOk (i : T) (nS nR : ℕ) : Prop := posR i = nR ∧ ∀ j : T, nS ≤ posS j → 2 + step i.2 < 2 + step j.2

/-- Waiting for a landing. -/
theorem recv (i : T) (hok : RecvOk i nS nR) {s : DmaSem sig} (hs : s = xS true i) {sp sp' : Space} {sh sh' : Shape} {e e' : EltTy}
    {src : Memref sig .tc sp sh e} {dst : Memref sig .tc sp' sh' e'} (hN : dst.view.dmaCredit = N i.1) {h h'}
    {k : PUnit → Prog (TpuEff nD τ sig (Elt F) Λ₀ .tc) α} (hk : St m K c nC nS (nR + 1) nA nW nO ⊢ exec c (k ⟨⟩) Q) :
    St m K c nC nS nR nA nW nO ⊢ exec c (.op (.waitDma2 s src dst h h') k) Q :=
  recv_step m K c i hok.1 hok.2 hs hN hk

/-- Reading the chunk a landing is added to. -/
theorem pick (i : T) (hok : AddOk i nC nS nA) {off : Dev nD → Fin 2 → ℕ} (ho : ∀ d, off d = ![128 * (xr d (tgt i.1 i.2)).val, 0])
    {inb : ∀ a, off c a + (Sc i.1).size a ≤ (Sa i.1).size a} {hl'} {k : ((Sc i.1).Idx → Elt F .f32) → Prog (TpuEff nD τ sig (Elt F) Λ₀ .tc) α}
    (hk : St m K c nC nS nR nA nW nO ⊢ exec c (k (Ac m i.1 (step i.2) c (xr c (tgt i.1 i.2)))) Q) :
    St m K c nC nS nR nA nW nO ⊢ exec c (.op (.load (accM i.1) (Rect.unit (s := Sa i.1) (off c) (Sc i.1).size inb).toLoadRect hl') k) Q :=
  load_chunk m K c i.1 (tgt i.1 i.2) (step i.2) hok.1 hok.2.2.1 hok.2.2.2 ho hk

/-- Writing the chunk a landing has been added to; the chunk is read once more before, for nothing. -/
theorem put (i : T) (hok : AddOk i nC nS nA) {w : (Sc i.1).Idx → Elt F .f32} (hw : w = Ac m i.1 (step i.2 + 1) c (xr c (tgt i.1 i.2)))
    {off : Dev nD → Fin 2 → ℕ} (ho : ∀ d, off d = ![128 * (xr d (tgt i.1 i.2)).val, 0]) {inb : ∀ a, off c a + (Sc i.1).size a ≤ (Sa i.1).size a} {hl' hx hm}
    {k : PUnit → Prog (TpuEff nD τ sig (Elt F) Λ₀ .tc) α} (hk : St m K c nC nS nR (nA + 1) nW nO ⊢ exec c (k ⟨⟩) Q) :
    St m K c nC nS nR nA nW nO ⊢ exec c (.op (.load (accM i.1) (Rect.unit (s := Sa i.1) (off c) (Sc i.1).size inb).toLoadRect hl') fun _ =>
      .op (.store (accM i.1) (Rect.unit (s := Sa i.1) (off c) (Sc i.1).size inb) w Finset.univ hx hm) k) Q :=
  pick m K c i hok ho (store_chunk m K c i hok.1 hok.2.1 hok.2.2.1 hw ho hk)

/-- A landing waited for and added to its chunk. -/
theorem recv_add (i : T) (hok : RecvOk i nS nR) (hok' : AddOk i nC nS nA) (hR : posR i < nR + 1) {s : DmaSem sig} (hs : s = xS true i)
    {sp sp' : Space} {sh sh' : Shape} {e e' : EltTy} {src : Memref sig .tc sp sh e} {dst : Memref sig .tc sp' sh' e'} (hN : dst.view.dmaCredit = N i.1) {h h'}
    {off : Dev nD → Fin 2 → ℕ} (ho : ∀ d, off d = ![128 * (xr d (tgt i.1 i.2)).val, 0]) {inb : ∀ a, off c a + (Sc i.1).size a ≤ (Sa i.1).size a}
    {inb' : ∀ a, (![i.2.val, 0, 0] : Fin 3 → ℕ) a + (Ss i.1).size a ≤ (Sb i.1).size a} {hl hl' hl'' hx hm}
    {p : ((Sc i.1).Idx → Elt F .f32) → ((Ss i.1).Idx → Elt F .f32) → ((Sc i.1).Idx → Elt F .f32)} {hc : (Ss i.1).ShapeCasts (Sc i.1)} {hc' : (Sc i.1).ShapeCasts (Sc i.1)}
    (hp : ∀ (a : FVec F (Sc i.1) .f32) V, p a V = shapeCast (Sc i.1) (addf a (shapeCast (Sc i.1) V hc : FVec F (Sc i.1) .f32)) hc')
    {k : PUnit → Prog (TpuEff nD τ sig (Elt F) Λ₀ .tc) α} (hk : St m K c nC nS (nR + 1) (nA + 1) nW nO ⊢ exec c (k ⟨⟩) Q) :
    St m K c nC nS nR nA nW nO ⊢ exec c (.op (.waitDma2 s src dst h h') fun _ =>
      .op (.load (accM i.1) (Rect.unit (s := Sa i.1) (off c) (Sc i.1).size inb).toLoadRect hl) fun a =>
      .op (.load (bufA i.1) (Rect.unit (s := Sb i.1) ![i.2.val, 0, 0] (Ss i.1).size inb').toLoadRect hl') fun V =>
      .op (.load (accM i.1) (Rect.unit (s := Sa i.1) (off c) (Sc i.1).size inb).toLoadRect hl'') fun _ =>
      .op (.store (accM i.1) (Rect.unit (s := Sa i.1) (off c) (Sc i.1).size inb) (p a V) Finset.univ hx hm) k) Q :=
  recv m K c i hok hs hN (pick m K c i hok' ho (load_slot m K c i hR fun V hV => put m K c i hok' ((hp _ _).trans (add_landed m c i hV _ _)) ho hk))

/-- The kernel's buffers and semaphores, applied. -/
abbrev onBufs {β : Type*} (f : (arg0 : Memref sig .tc .vmem S1024x128 .f32) → arg0.IsWhole → (arg1 : Memref sig .tc .vmem S128x1024 .f32) → arg1.IsWhole
    → (arg2 : Memref sig .tc .vmem S128x1024 .f32) → arg2.IsWhole → (arg3 : Memref sig .tc .vmem S1024x384 .f32) → arg3.IsWhole
    → (arg4 : Memref sig .tc .vmem S1024x384 .f32) → arg4.IsWhole → (arg5 : Memref sig .tc .vmem S1024x256 .f32) → arg5.IsWhole
    → (arg6 : Memref sig .tc .vmem S7x128x384 .f32) → arg6.IsWhole → (arg7 : Memref sig .tc .vmem S7x128x384 .f32) → arg7.IsWhole
    → (arg8 : Memref sig .tc .vmem S7x128x256 .f32) → arg8.IsWhole → DmaSems sig S7 → DmaSems sig S7 → DmaSems sig S7 → DmaSems sig S7 → DmaSems sig S7 → DmaSems sig S7 → β) : β :=
  f (Memref.whole cc0_stg0_0) (Memref.isWhole_whole _) (Memref.whole cc0_stg1_0) (Memref.isWhole_whole _) (Memref.whole cc0_stg2_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    cc0_scratch6 cc0_scratch7 cc0_scratch8 cc0_scratch9 cc0_scratch10 cc0_scratch11

/-! ## Products and the first exchange -/

theorem part2 (v5 : BitVec 32) {Q : _ → sProp 𝕄} (hQ : ∀ r, St m K c 1 1 0 0 0 0 ⊢ Q r) :
    St m K c 0 0 0 0 0 0 ⊢ exec c (onBufs (k0_part2 (F := F)) c v5 (k0_pay1 (xst m c))) Q := by
  rw [k0_part2_eq_skeleton]; unfold onBufs k0_part2_skel
  simp only [Prog.lift, Prog.bind_op, Prog.bind_ret, Prog.pure_eq_ret]
  refine load_w m K c 0 ?_
  refine load_acc m K c 0 (by decide) fun _ => ?_
  refine store_acc m K c 0 rfl (by decide) rfl ?_
  refine send m K c (0, 0) (by decide +kernel) (n := fun d => ⟨k0_dev4 d, k0_dev4_lt d⟩) (by decide +kernel) (off := fun d => k0_off1 d 4#32 2#32) (off1_eq 4 2) rfl rfl rfl ?_
  exact ret_step c (hQ _)

theorem part3 (v5 w0 w1 w2 w3 : BitVec 32) {Q : _ → sProp 𝕄} (hQ : ∀ r, St m K c 1 3 0 0 0 0 ⊢ Q r) :
    St m K c 1 1 0 0 0 0 ⊢ exec c (onBufs (k0_part3 (F := F)) c v5 w0 w1 w2 w3) Q := by
  rw [k0_part3_eq_skeleton]; unfold onBufs k0_part3_skel
  simp only [Prog.lift, Prog.bind_op, Prog.bind_ret, Prog.pure_eq_ret]
  refine send m K c (0, 1) (by decide +kernel) (n := fun d => ⟨k0_dev5 d, k0_dev5_lt d⟩) (by decide +kernel) (off := fun d => k0_off1 d 4#32 3#32) (off1_eq 4 3) rfl rfl rfl ?_
  refine send m K c (0, 2) (by decide +kernel) (n := fun d => ⟨k0_dev6 d, k0_dev6_lt d⟩) (by decide +kernel) (off := fun d => k0_off1 d 4#32 1#32) (off1_eq 4 1) rfl rfl rfl ?_
  exact ret_step c (hQ _)

theorem part4 (v5 w0 : BitVec 32) {Q : _ → sProp 𝕄} (hQ : ∀ r, St m K c 2 4 0 0 0 0 ⊢ Q r) :
    St m K c 1 3 0 0 0 0 ⊢ exec c (onBufs (k0_part4 (F := F)) c v5 w0) Q := by
  rw [k0_part4_eq_skeleton]; unfold onBufs k0_part4_skel
  simp only [Prog.lift, Prog.bind_op, Prog.bind_ret, Prog.pure_eq_ret]
  refine send m K c (0, 3) (by decide +kernel) (n := fun d => ⟨k0_dev7 d, k0_dev7_lt d⟩) (by decide +kernel) (off := fun d => k0_off1 d 4#32 0#32) (off1_eq 4 0) rfl rfl rfl ?_
  refine load_x m K c ?_
  refine load_w m K c 1 ?_
  refine load_acc m K c 1 (by decide) fun _ => ?_
  refine store_acc m K c 1 rfl (by decide) rfl ?_
  exact ret_step c (hQ _)

theorem part5 (v5 w0 w1 w2 : BitVec 32) {Q : _ → sProp 𝕄} (hQ : ∀ r, St m K c 2 5 0 0 0 0 ⊢ Q r) :
    St m K c 2 4 0 0 0 0 ⊢ exec c (onBufs (k0_part5 (F := F)) c v5 w0 w1 w2) Q := by
  rw [k0_part5_eq_skeleton]; unfold onBufs k0_part5_skel
  simp only [Prog.lift, Prog.bind_op, Prog.bind_ret, Prog.pure_eq_ret]
  refine send m K c (1, 0) (by decide +kernel) (n := fun d => ⟨k0_dev8 d, k0_dev8_lt d⟩) (by decide +kernel) (off := fun d => k0_off1 d 2#32 1#32) (off1_eq 2 1) rfl rfl rfl ?_
  exact ret_step c (hQ _)

theorem part6 (v5 : BitVec 32) {Q : _ → sProp 𝕄} (hQ : ∀ r, St m K c 2 7 0 0 0 0 ⊢ Q r) :
    St m K c 2 5 0 0 0 0 ⊢ exec c (onBufs (k0_part6 (F := F)) c v5) Q := by
  rw [k0_part6_eq_skeleton]; unfold onBufs k0_part6_skel
  simp only [Prog.lift, Prog.bind_op, Prog.bind_ret, Prog.pure_eq_ret]
  refine send m K c (1, 1) (by decide +kernel) (n := fun d => ⟨k0_dev9 d, k0_dev9_lt d⟩) (by decide +kernel) (off := fun d => k0_off1 d 2#32 5#32) (off1_eq 2 5) rfl rfl rfl ?_
  refine send m K c (1, 2) (by decide +kernel) (n := fun d => ⟨k0_dev10 d, k0_dev10_lt d⟩) (by decide +kernel) (off := fun d => k0_off1 d 2#32 4#32) (off1_eq 2 4) rfl rfl rfl ?_
  exact ret_step c (hQ _)

theorem part7 (v5 w0 w1 : BitVec 32) {Q : _ → sProp 𝕄} (hQ : ∀ r, St m K c 3 8 0 0 0 0 ⊢ Q r) :
    St m K c 2 7 0 0 0 0 ⊢ exec c (onBufs (k0_part7 (F := F)) c v5 w0 w1) Q := by
  rw [k0_part7_eq_skeleton]; unfold onBufs k0_part7_skel
  simp only [Prog.lift, Prog.bind_op, Prog.bind_ret, Prog.pure_eq_ret]
  refine send m K c (1, 3) (by decide +kernel) (n := fun d => ⟨k0_dev11 d, k0_dev11_lt d⟩) (by decide +kernel) (off := fun d => k0_off1 d 2#32 0#32) (off1_eq 2 0) rfl rfl rfl ?_
  refine load_x m K c ?_
  refine load_w m K c 2 ?_
  refine load_acc m K c 2 (by decide) fun _ => ?_
  refine store_acc m K c 2 rfl (by decide) rfl ?_
  exact ret_step c (hQ _)

theorem part8 (v5 : BitVec 32) {Q : _ → sProp 𝕄} (hQ : ∀ r, St m K c 3 10 0 0 0 0 ⊢ Q r) :
    St m K c 3 8 0 0 0 0 ⊢ exec c (onBufs (k0_part8 (F := F)) c v5) Q := by
  rw [k0_part8_eq_skeleton]; unfold onBufs k0_part8_skel
  simp only [Prog.lift, Prog.bind_op, Prog.bind_ret, Prog.pure_eq_ret]
  refine send m K c (2, 0) (by decide +kernel) (n := fun d => ⟨k0_dev12 d, k0_dev12_lt d⟩) (by decide +kernel) (off := fun d => k0_off2 d 1#32 4#32) (off2_eq 1 4) rfl rfl rfl ?_
  refine send m K c (2, 1) (by decide +kernel) (n := fun d => ⟨k0_dev13 d, k0_dev13_lt d⟩) (by decide +kernel) (off := fun d => k0_off2 d 1#32 6#32) (off2_eq 1 6) rfl rfl rfl ?_
  exact ret_step c (hQ _)

theorem part9 (v5 w0 : BitVec 32) {Q : _ → sProp 𝕄} (hQ : ∀ r, St m K c 3 12 0 0 0 0 ⊢ Q r) :
    St m K c 3 10 0 0 0 0 ⊢ exec c (onBufs (k0_part9 (F := F)) c v5 w0) Q := by
  rw [k0_part9_eq_skeleton]; unfold onBufs k0_part9_skel
  simp only [Prog.lift, Prog.bind_op, Prog.bind_ret, Prog.pure_eq_ret]
  refine send m K c (2, 2) (by decide +kernel) (n := fun d => ⟨k0_dev14 d, k0_dev14_lt d⟩) (by decide +kernel) (off := fun d => k0_off2 d 1#32 2#32) (off2_eq 1 2) rfl rfl rfl ?_
  refine send m K c (2, 3) (by decide +kernel) (n := fun d => ⟨k0_dev15 d, k0_dev15_lt d⟩) (by decide +kernel) (off := fun d => k0_off2 d 1#32 0#32) (off2_eq 1 0) rfl rfl rfl ?_
  exact ret_step c (hQ _)

/-! ## The first landings, and the second exchange -/

theorem part10 (v5 w0 w1 : BitVec 32) {Q : _ → sProp 𝕄} (hQ : ∀ r, St m K c 3 12 1 1 0 0 ⊢ Q r) :
    St m K c 3 12 0 0 0 0 ⊢ exec c (onBufs (k0_part10 (F := F)) c v5 w0 w1) Q := by
  rw [k0_part10_eq_skeleton]; unfold onBufs k0_part10_skel
  simp only [Prog.lift, Prog.bind_op, Prog.bind_ret, Prog.pure_eq_ret]
  refine recv_add m K c (0, 0) (by decide) (by decide) (by decide) (by rfl) (by rfl) (off := fun d => k0_off3 d 2#32) (off3_eq 2) (by exact fun _ _ => rfl) ?_
  exact ret_step c (hQ _)

theorem part11 (v5 w0 w1 : BitVec 32) {Q : _ → sProp 𝕄} (hQ : ∀ r, St m K c 3 12 2 2 0 0 ⊢ Q r) :
    St m K c 3 12 1 1 0 0 ⊢ exec c (onBufs (k0_part11 (F := F)) c v5 w0 w1) Q := by
  rw [k0_part11_eq_skeleton]; unfold onBufs k0_part11_skel
  simp only [Prog.lift, Prog.bind_op, Prog.bind_ret, Prog.pure_eq_ret]
  refine recv_add m K c (0, 1) (by decide) (by decide) (by decide) (by rfl) (by rfl) (off := fun d => k0_off3 d 3#32) (off3_eq 3) (by exact fun _ _ => rfl) ?_
  exact ret_step c (hQ _)

theorem part12 (v5 w0 w1 w2 : BitVec 32) {Q : _ → sProp 𝕄} (hQ : ∀ r, St m K c 3 13 2 2 0 0 ⊢ Q r) :
    St m K c 3 12 2 2 0 0 ⊢ exec c (onBufs (k0_part12 (F := F)) c v5 w0 w1 w2) Q := by
  rw [k0_part12_eq_skeleton]; unfold onBufs k0_part12_skel
  simp only [Prog.lift, Prog.bind_op, Prog.bind_ret, Prog.pure_eq_ret]
  refine send m K c (0, 4) (by decide +kernel) (n := fun d => ⟨k0_dev16 d, k0_dev16_lt d⟩) (by decide +kernel) (off := fun d => k0_off1 d 2#32 1#32) (off1_eq 2 1) rfl rfl rfl ?_
  exact ret_step c (hQ _)

theorem part13 (v5 : BitVec 32) {Q : _ → sProp 𝕄} (hQ : ∀ r, St m K c 3 14 3 3 0 0 ⊢ Q r) :
    St m K c 3 13 2 2 0 0 ⊢ exec c (onBufs (k0_part13 (F := F)) c v5) Q := by
  rw [k0_part13_eq_skeleton]; unfold onBufs k0_part13_skel
  simp only [Prog.lift, Prog.bind_op, Prog.bind_ret, Prog.pure_eq_ret]
  refine send m K c (0, 5) (by decide +kernel) (n := fun d => ⟨k0_dev17 d, k0_dev17_lt d⟩) (by decide +kernel) (off := fun d => k0_off1 d 2#32 0#32) (off1_eq 2 0) rfl rfl rfl ?_
  refine recv_add m K c (1, 0) (by decide) (by decide) (by decide) (by rfl) (by rfl) (off := fun d => k0_off3 d 1#32) (off3_eq 1) (by exact fun _ _ => rfl) ?_
  exact ret_step c (hQ _)

theorem part14 (v5 : BitVec 32) {Q : _ → sProp 𝕄} (hQ : ∀ r, St m K c 3 14 4 4 0 0 ⊢ Q r) :
    St m K c 3 14 3 3 0 0 ⊢ exec c (onBufs (k0_part14 (F := F)) c v5) Q := by
  rw [k0_part14_eq_skeleton]; unfold onBufs k0_part14_skel
  simp only [Prog.lift, Prog.bind_op, Prog.bind_ret, Prog.pure_eq_ret]
  refine recv_add m K c (1, 1) (by decide) (by decide) (by decide) (by rfl) (by rfl) (off := fun d => k0_off3 d 5#32) (off3_eq 5) (by exact fun _ _ => rfl) ?_
  exact ret_step c (hQ _)

theorem part15 (v5 w0 : BitVec 32) {Q : _ → sProp 𝕄} (hQ : ∀ r, St m K c 3 15 4 4 0 0 ⊢ Q r) :
    St m K c 3 14 4 4 0 0 ⊢ exec c (onBufs (k0_part15 (F := F)) c v5 w0) Q := by
  rw [k0_part15_eq_skeleton]; unfold onBufs k0_part15_skel
  simp only [Prog.lift, Prog.bind_op, Prog.bind_ret, Prog.pure_eq_ret]
  refine send m K c (1, 4) (by decide +kernel) (n := fun d => ⟨k0_dev18 d, k0_dev18_lt d⟩) (by decide +kernel) (off := fun d => k0_off1 d 1#32 4#32) (off1_eq 1 4) rfl rfl rfl ?_
  exact ret_step c (hQ _)

theorem part16 (v5 : BitVec 32) {Q : _ → sProp 𝕄} (hQ : ∀ r V, Lands m c (2, 0) V → St m K c 3 16 5 4 0 0 ⊢ Q ⟨r, (Ac m 2 0 c (xr c (tgt 2 0))), V⟩) :
    St m K c 3 15 4 4 0 0 ⊢ exec c (onBufs (k0_part16 (F := F)) c v5) Q := by
  rw [k0_part16_eq_skeleton]; unfold onBufs k0_part16_skel
  simp only [Prog.lift, Prog.bind_op, Prog.bind_ret, Prog.pure_eq_ret]
  refine send m K c (1, 5) (by decide +kernel) (n := fun d => ⟨k0_dev19 d, k0_dev19_lt d⟩) (by decide +kernel) (off := fun d => k0_off1 d 1#32 0#32) (off1_eq 1 0) rfl rfl rfl ?_
  refine recv m K c (2, 0) (by decide) (by rfl) (by rfl) ?_
  refine pick m K c (2, 0) (by decide) (off := fun d => k0_off4 d 4#32) (off4_eq 4) ?_
  refine load_slot m K c (2, 0) (by decide) fun V hV => ?_
  exact ret_step c (hQ _ V hV)

theorem part17 (v5 w0 : BitVec 32) {V : (Ss 2).Idx → Elt F .f32} (hV : Lands m c (2, 0) V) {Q : _ → sProp 𝕄} (hQ : ∀ r V', Lands m c (2, 1) V' → St m K c 3 16 6 5 0 0 ⊢ Q ⟨r, k0_pay10 (Ac m 2 0 c (xr c (tgt 2 1))) V'⟩) :
    St m K c 3 16 5 4 0 0 ⊢ exec c (onBufs (k0_part17 (F := F)) c v5 w0 (Ac m 2 0 c (xr c (tgt 2 0))) V) Q := by
  rw [k0_part17_eq_skeleton]; unfold onBufs k0_part17_skel
  simp only [Prog.lift, Prog.bind_op, Prog.bind_ret, Prog.pure_eq_ret]
  refine put m K c (2, 0) (by decide) (add_landed m c (2, 0) hV _ _) (off := fun d => k0_off4 d 4#32) (off4_eq 4) ?_
  refine recv m K c (2, 1) (by decide) (by rfl) (by rfl) ?_
  refine pick m K c (2, 1) (by decide) (off := fun d => k0_off4 d 6#32) (off4_eq 6) ?_
  refine load_slot m K c (2, 1) (by decide) fun V' hV' => ?_
  exact ret_step c (hQ _ V' hV')

theorem part18 (v5 w0 : BitVec 32) {V : (Ss 2).Idx → Elt F .f32} (hV : Lands m c (2, 1) V) {Q : _ → sProp 𝕄} (hQ : ∀ r, St m K c 3 17 6 6 0 0 ⊢ Q r) :
    St m K c 3 16 6 5 0 0 ⊢ exec c (onBufs (k0_part18 (F := F)) c v5 w0 (k0_pay10 (Ac m 2 0 c (xr c (tgt 2 1))) V)) Q := by
  rw [k0_part18_eq_skeleton]; unfold onBufs k0_part18_skel
  simp only [Prog.lift, Prog.bind_op, Prog.bind_ret, Prog.pure_eq_ret]
  refine put m K c (2, 1) (by decide) (add_landed m c (2, 1) hV _ _) (off := fun d => k0_off4 d 6#32) (off4_eq 6) ?_
  refine send m K c (2, 4) (by decide +kernel) (n := fun d => ⟨k0_dev20 d, k0_dev20_lt d⟩) (by decide +kernel) (off := fun d => k0_off2 d 4#32 2#32) (off2_eq 4 2) rfl rfl rfl ?_
  exact ret_step c (hQ _)

theorem part19 (v5 w0 : BitVec 32) {Q : _ → sProp 𝕄} (hQ : ∀ r, St m K c 3 18 7 6 0 0 ⊢ Q r) :
    St m K c 3 17 6 6 0 0 ⊢ exec c (onBufs (k0_part19 (F := F)) c v5 w0) Q := by
  rw [k0_part19_eq_skeleton]; unfold onBufs k0_part19_skel
  simp only [Prog.lift, Prog.bind_op, Prog.bind_ret, Prog.pure_eq_ret]
  refine send m K c (2, 5) (by decide +kernel) (n := fun d => ⟨k0_dev21 d, k0_dev21_lt d⟩) (by decide +kernel) (off := fun d => k0_off2 d 4#32 0#32) (off2_eq 4 0) rfl rfl rfl ?_
  refine recv m K c (0, 2) (by decide) (by rfl) (by rfl) ?_
  exact ret_step c (hQ _)

theorem part20 (v5 w0 w1 : BitVec 32) {Q : _ → sProp 𝕄} (hQ : ∀ r, St m K c 3 18 8 7 0 0 ⊢ Q r) :
    St m K c 3 18 7 6 0 0 ⊢ exec c (onBufs (k0_part20 (F := F)) c v5 w0 w1) Q := by
  rw [k0_part20_eq_skeleton]; unfold onBufs k0_part20_skel
  simp only [Prog.lift, Prog.bind_op, Prog.bind_ret, Prog.pure_eq_ret]
  refine pick m K c (0, 2) (by decide) (off := fun d => k0_off3 d 1#32) (off3_eq 1) ?_
  refine load_slot m K c (0, 2) (by decide) fun V hV => ?_
  refine put m K c (0, 2) (by decide) (add_landed m c (0, 2) hV _ _) (off := fun d => k0_off3 d 1#32) (off3_eq 1) ?_
  refine recv m K c (0, 3) (by decide) (by rfl) (by rfl) ?_
  exact ret_step c (hQ _)

theorem part21 (v5 w0 : BitVec 32) {Q : _ → sProp 𝕄} (hQ : ∀ r, St m K c 3 18 9 8 0 0 ⊢ Q ⟨r, (Ac m 1 0 c (xr c (tgt 1 2)))⟩) :
    St m K c 3 18 8 7 0 0 ⊢ exec c (onBufs (k0_part21 (F := F)) c v5 w0) Q := by
  rw [k0_part21_eq_skeleton]; unfold onBufs k0_part21_skel
  simp only [Prog.lift, Prog.bind_op, Prog.bind_ret, Prog.pure_eq_ret]
  refine pick m K c (0, 3) (by decide) (off := fun d => k0_off3 d 0#32) (off3_eq 0) ?_
  refine load_slot m K c (0, 3) (by decide) fun V hV => ?_
  refine put m K c (0, 3) (by decide) (add_landed m c (0, 3) hV _ _) (off := fun d => k0_off3 d 0#32) (off3_eq 0) ?_
  refine recv m K c (1, 2) (by decide) (by rfl) (by rfl) ?_
  refine pick m K c (1, 2) (by decide) (off := fun d => k0_off3 d 4#32) (off3_eq 4) ?_
  exact ret_step c (hQ _)

theorem part22 (v5 w0 : BitVec 32) {Q : _ → sProp 𝕄} (hQ : ∀ r, St m K c 3 18 10 9 0 0 ⊢ Q ⟨r, (Ac m 1 0 c (xr c (tgt 1 3)))⟩) :
    St m K c 3 18 9 8 0 0 ⊢ exec c (onBufs (k0_part22 (F := F)) c v5 w0 (Ac m 1 0 c (xr c (tgt 1 2)))) Q := by
  rw [k0_part22_eq_skeleton]; unfold onBufs k0_part22_skel
  simp only [Prog.lift, Prog.bind_op, Prog.bind_ret, Prog.pure_eq_ret]
  refine load_slot m K c (1, 2) (by decide) fun V hV => ?_
  refine put m K c (1, 2) (by decide) (add_landed m c (1, 2) hV _ _) (off := fun d => k0_off3 d 4#32) (off3_eq 4) ?_
  refine recv m K c (1, 3) (by decide) (by rfl) (by rfl) ?_
  refine pick m K c (1, 3) (by decide) (off := fun d => k0_off3 d 0#32) (off3_eq 0) ?_
  exact ret_step c (hQ _)

theorem part23 (v5 w0 : BitVec 32) {Q : _ → sProp 𝕄} (hQ : ∀ r V, Lands m c (2, 2) V → St m K c 3 18 11 10 0 0 ⊢ Q ⟨r, (Ac m 2 0 c (xr c (tgt 2 2))), V⟩) :
    St m K c 3 18 10 9 0 0 ⊢ exec c (onBufs (k0_part23 (F := F)) c v5 w0 (Ac m 1 0 c (xr c (tgt 1 3)))) Q := by
  rw [k0_part23_eq_skeleton]; unfold onBufs k0_part23_skel
  simp only [Prog.lift, Prog.bind_op, Prog.bind_ret, Prog.pure_eq_ret]
  refine load_slot m K c (1, 3) (by decide) fun V hV => ?_
  refine put m K c (1, 3) (by decide) (add_landed m c (1, 3) hV _ _) (off := fun d => k0_off3 d 0#32) (off3_eq 0) ?_
  refine recv m K c (2, 2) (by decide) (by rfl) (by rfl) ?_
  refine pick m K c (2, 2) (by decide) (off := fun d => k0_off4 d 2#32) (off4_eq 2) ?_
  refine load_slot m K c (2, 2) (by decide) fun V' hV' => ?_
  exact ret_step c (hQ _ V' hV')

theorem part24 (v5 w0 : BitVec 32) {V : (Ss 2).Idx → Elt F .f32} (hV : Lands m c (2, 2) V) {Q : _ → sProp 𝕄} (hQ : ∀ r V', Lands m c (2, 3) V' → St m K c 3 18 12 11 0 0 ⊢ Q ⟨r, k0_pay17 (Ac m 2 0 c (xr c (tgt 2 3))) V'⟩) :
    St m K c 3 18 11 10 0 0 ⊢ exec c (onBufs (k0_part24 (F := F)) c v5 w0 (Ac m 2 0 c (xr c (tgt 2 2))) V) Q := by
  rw [k0_part24_eq_skeleton]; unfold onBufs k0_part24_skel
  simp only [Prog.lift, Prog.bind_op, Prog.bind_ret, Prog.pure_eq_ret]
  refine put m K c (2, 2) (by decide) (add_landed m c (2, 2) hV _ _) (off := fun d => k0_off4 d 2#32) (off4_eq 2) ?_
  refine recv m K c (2, 3) (by decide) (by rfl) (by rfl) ?_
  refine pick m K c (2, 3) (by decide) (off := fun d => k0_off4 d 0#32) (off4_eq 0) ?_
  refine load_slot m K c (2, 3) (by decide) fun V' hV' => ?_
  exact ret_step c (hQ _ V' hV')

/-! ## The second landings, and the third exchange -/

theorem part25 (v5 w0 : BitVec 32) {V : (Ss 2).Idx → Elt F .f32} (hV : Lands m c (2, 3) V) {Q : _ → sProp 𝕄} (hQ : ∀ V', Lands m c (0, 4) V' → St m K c 3 18 13 12 0 0 ⊢ Q (k0_pay19 (Ac m 0 1 c (xr c (tgt 0 4))) V')) :
    St m K c 3 18 12 11 0 0 ⊢ exec c (onBufs (k0_part25 (F := F)) c v5 w0 (k0_pay17 (Ac m 2 0 c (xr c (tgt 2 3))) V)) Q := by
  rw [k0_part25_eq_skeleton]; unfold onBufs k0_part25_skel
  simp only [Prog.lift, Prog.bind_op, Prog.bind_ret, Prog.pure_eq_ret]
  refine put m K c (2, 3) (by decide) (add_landed m c (2, 3) hV _ _) (off := fun d => k0_off4 d 0#32) (off4_eq 0) ?_
  refine recv m K c (0, 4) (by decide) (by rfl) (by rfl) ?_
  refine pick m K c (0, 4) (by decide) (off := fun d => k0_off3 d 1#32) (off3_eq 1) ?_
  refine load_slot m K c (0, 4) (by decide) fun V' hV' => ?_
  exact ret_step c (hQ V' hV')

theorem part26 (v5 : BitVec 32) {V : (Ss 0).Idx → Elt F .f32} (hV : Lands m c (0, 4) V) {Q : _ → sProp 𝕄} (hQ : ∀ r, St m K c 3 19 13 13 0 0 ⊢ Q r) :
    St m K c 3 18 13 12 0 0 ⊢ exec c (onBufs (k0_part26 (F := F)) c v5 (k0_pay19 (Ac m 0 1 c (xr c (tgt 0 4))) V)) Q := by
  rw [k0_part26_eq_skeleton]; unfold onBufs k0_part26_skel
  simp only [Prog.lift, Prog.bind_op, Prog.bind_ret, Prog.pure_eq_ret]
  refine put m K c (0, 4) (by decide) (add_landed m c (0, 4) hV _ _) (off := fun d => k0_off3 d 1#32) (off3_eq 1) ?_
  refine send m K c (0, 6) (by decide +kernel) (n := fun d => ⟨k0_dev22 d, k0_dev22_lt d⟩) (by decide +kernel) (off := fun d => k0_off1 d 1#32 0#32) (off1_eq 1 0) rfl rfl rfl ?_
  exact ret_step c (hQ _)

theorem part27 (v5 w0 : BitVec 32) {Q : _ → sProp 𝕄} (hQ : ∀ r, St m K c 3 19 14 14 0 0 ⊢ Q r) :
    St m K c 3 19 13 13 0 0 ⊢ exec c (onBufs (k0_part27 (F := F)) c v5 w0) Q := by
  rw [k0_part27_eq_skeleton]; unfold onBufs k0_part27_skel
  simp only [Prog.lift, Prog.bind_op, Prog.bind_ret, Prog.pure_eq_ret]
  refine recv_add m K c (1, 4) (by decide) (by decide) (by decide) (by rfl) (by rfl) (off := fun d => k0_off3 d 4#32) (off3_eq 4) (by exact fun _ _ => rfl) ?_
  exact ret_step c (hQ _)

theorem part28 (v5 w0 w1 : BitVec 32) {Q : _ → sProp 𝕄} (hQ : ∀ r, St m K c 3 20 15 14 0 0 ⊢ Q ⟨r, (Ac m 2 1 c (xr c (tgt 2 4)))⟩) :
    St m K c 3 19 14 14 0 0 ⊢ exec c (onBufs (k0_part28 (F := F)) c v5 w0 w1) Q := by
  rw [k0_part28_eq_skeleton]; unfold onBufs k0_part28_skel
  simp only [Prog.lift, Prog.bind_op, Prog.bind_ret, Prog.pure_eq_ret]
  refine send m K c (1, 6) (by decide +kernel) (n := fun d => ⟨k0_dev23 d, k0_dev23_lt d⟩) (by decide +kernel) (off := fun d => k0_off1 d 4#32 0#32) (off1_eq 4 0) rfl rfl rfl ?_
  refine recv m K c (2, 4) (by decide) (by rfl) (by rfl) ?_
  refine pick m K c (2, 4) (by decide) (off := fun d => k0_off4 d 2#32) (off4_eq 2) ?_
  exact ret_step c (hQ _)

theorem part29 (v5 w0 : BitVec 32) {Q : _ → sProp 𝕄} (hQ : ∀ r, St m K c 3 21 15 15 0 0 ⊢ Q r) :
    St m K c 3 20 15 14 0 0 ⊢ exec c (onBufs (k0_part29 (F := F)) c v5 w0 (Ac m 2 1 c (xr c (tgt 2 4)))) Q := by
  rw [k0_part29_eq_skeleton]; unfold onBufs k0_part29_skel
  simp only [Prog.lift, Prog.bind_op, Prog.bind_ret, Prog.pure_eq_ret]
  refine load_slot m K c (2, 4) (by decide) fun V hV => ?_
  refine put m K c (2, 4) (by decide) (add_landed m c (2, 4) hV _ _) (off := fun d => k0_off4 d 2#32) (off4_eq 2) ?_
  refine send m K c (2, 6) (by decide +kernel) (n := fun d => ⟨k0_dev24 d, k0_dev24_lt d⟩) (by decide +kernel) (off := fun d => k0_off2 d 2#32 0#32) (off2_eq 2 0) rfl rfl rfl ?_
  exact ret_step c (hQ _)

theorem part30 (v5 w0 w1 w2 : BitVec 32) {Q : _ → sProp 𝕄} (hQ : ∀ r, St m K c 3 21 16 16 0 0 ⊢ Q r) :
    St m K c 3 21 15 15 0 0 ⊢ exec c (onBufs (k0_part30 (F := F)) c v5 w0 w1 w2) Q := by
  rw [k0_part30_eq_skeleton]; unfold onBufs k0_part30_skel
  simp only [Prog.lift, Prog.bind_op, Prog.bind_ret, Prog.pure_eq_ret]
  refine recv_add m K c (0, 5) (by decide) (by decide) (by decide) (by rfl) (by rfl) (off := fun d => k0_off3 d 0#32) (off3_eq 0) (by exact fun _ _ => rfl) ?_
  exact ret_step c (hQ _)

theorem part31 (v5 w0 w1 w2 w3 : BitVec 32) {Q : _ → sProp 𝕄} (hQ : ∀ r, St m K c 3 21 17 17 0 0 ⊢ Q r) :
    St m K c 3 21 16 16 0 0 ⊢ exec c (onBufs (k0_part31 (F := F)) c v5 w0 w1 w2 w3) Q := by
  rw [k0_part31_eq_skeleton]; unfold onBufs k0_part31_skel
  simp only [Prog.lift, Prog.bind_op, Prog.bind_ret, Prog.pure_eq_ret]
  refine recv_add m K c (1, 5) (by decide) (by decide) (by decide) (by rfl) (by rfl) (off := fun d => k0_off3 d 0#32) (off3_eq 0) (by exact fun _ _ => rfl) ?_
  exact ret_step c (hQ _)

theorem part32 (v5 w0 w1 : BitVec 32) {Q : _ → sProp 𝕄} (hQ : ∀ r, St m K c 3 21 18 18 0 0 ⊢ Q r) :
    St m K c 3 21 17 17 0 0 ⊢ exec c (onBufs (k0_part32 (F := F)) c v5 w0 w1) Q := by
  rw [k0_part32_eq_skeleton]; unfold onBufs k0_part32_skel
  simp only [Prog.lift, Prog.bind_op, Prog.bind_ret, Prog.pure_eq_ret]
  refine recv_add m K c (2, 5) (by decide) (by decide) (by decide) (by rfl) (by rfl) (off := fun d => k0_off4 d 0#32) (off4_eq 0) (by exact fun _ _ => rfl) ?_
  exact ret_step c (hQ _)

/-! ## The third landings, and the result -/

theorem part33 (v2 v5 w0 : BitVec 32) {Q : _ → sProp 𝕄} (hQ :  St m K c 3 21 19 19 0 0 ⊢ Q ⟨k0_pay27 (Ac m 0 3 c (xr c 0)), k0_pay28 (Ac m 0 3 c (xr c 0)), k0_pay29⟩) :
    St m K c 3 21 18 18 0 0 ⊢ exec c (onBufs (k0_part33 (F := F)) c v2 v5 w0) Q := by
  rw [k0_part33_eq_skeleton]; unfold onBufs k0_part33_skel
  simp only [Prog.lift, Prog.bind_op, Prog.bind_ret, Prog.pure_eq_ret]
  refine recv_add m K c (0, 6) (by decide) (by decide) (by decide) (by rfl) (by rfl) (off := fun d => k0_off3 d 0#32) (off3_eq 0) (by exact fun _ _ => rfl) ?_
  refine load_chunk m K c 0 0 3 (by decide) (by decide) (by decide) (off := fun d => k0_off5 d) off5_eq ?_
  exact ret_step c (hQ)

theorem part34 (v5 : BitVec 32) {Q : _ → sProp 𝕄} (hQ : ∀ V, Lands m c (1, 6) V → St m K c 3 21 20 19 0 1 ⊢ Q (k0_pay31 (Ac m 1 2 c (xr c (tgt 1 6))) V)) :
    St m K c 3 21 19 19 0 0 ⊢ exec c (onBufs (k0_part34 (F := F)) c v5 (k0_pay27 (Ac m 0 3 c (xr c 0))) (k0_pay28 (Ac m 0 3 c (xr c 0))) k0_pay29) Q := by
  rw [k0_part34_eq_skeleton]; unfold onBufs k0_part34_skel
  simp only [Prog.lift, Prog.bind_op, Prog.bind_ret, Prog.pure_eq_ret]
  refine load_out m K c fun _ => ?_
  refine store_out m K c 0 (by rfl) (by rfl) ?_
  refine recv m K c (1, 6) (by decide) (by rfl) (by rfl) ?_
  refine pick m K c (1, 6) (by decide) (off := fun d => k0_off3 d 0#32) (off3_eq 0) ?_
  refine load_slot m K c (1, 6) (by decide) fun V hV => ?_
  exact ret_step c (hQ V hV)

theorem part35 (v2 v5 : BitVec 32) {V : (Ss 1).Idx → Elt F .f32} (hV : Lands m c (1, 6) V) {Q : _ → sProp 𝕄} (hQ : ∀ r, St m K c 3 21 20 20 0 2 ⊢ Q r) :
    St m K c 3 21 20 19 0 1 ⊢ exec c (onBufs (k0_part35 (F := F)) c v2 v5 (k0_pay31 (Ac m 1 2 c (xr c (tgt 1 6))) V)) Q := by
  rw [k0_part35_eq_skeleton]; unfold onBufs k0_part35_skel
  simp only [Prog.lift, Prog.bind_op, Prog.bind_ret, Prog.pure_eq_ret]
  refine put m K c (1, 6) (by decide) (add_landed m c (1, 6) hV _ _) (off := fun d => k0_off3 d 0#32) (off3_eq 0) ?_
  refine load_chunk m K c 1 0 3 (by decide) (by decide) (by decide) (off := fun d => k0_off5 d) off5_eq ?_
  refine load_out m K c fun _ => ?_
  refine store_out m K c 1 (by rfl) (by rfl) ?_
  exact ret_step c (hQ _)

theorem part36 (v2 v5 : BitVec 32) {Q : _ → sProp 𝕄} (hQ : ∀ r, St m K c 3 21 21 21 0 3 ⊢ Q r) :
    St m K c 3 21 20 20 0 2 ⊢ exec c (onBufs (k0_part36 (F := F)) c v2 v5) Q := by
  rw [k0_part36_eq_skeleton]; unfold onBufs k0_part36_skel
  simp only [Prog.lift, Prog.bind_op, Prog.bind_ret, Prog.pure_eq_ret]
  refine recv_add m K c (2, 6) (by decide) (by decide) (by decide) (by rfl) (by rfl) (off := fun d => k0_off4 d 0#32) (off4_eq 0) (by exact fun _ _ => rfl) ?_
  refine load_chunk m K c 2 0 3 (by decide) (by decide) (by decide) (off := fun d => k0_off6 d) off6_eq ?_
  refine load_out m K c fun _ => ?_
  refine store_out m K c 2 (by rfl) (by rfl) ?_
  exact ret_step c (hQ _)

/-! ## The transfers' own ends -/

theorem part37 (v5 w0 w1 : BitVec 32) {Q : _ → sProp 𝕄} (hQ : ∀ r, St m K c 3 21 21 21 2 3 ⊢ Q r) :
    St m K c 3 21 21 21 0 3 ⊢ exec c (onBufs (k0_part37 (F := F)) c v5 w0 w1) Q := by
  rw [k0_part37_eq_skeleton]; unfold onBufs k0_part37_skel
  simp only [Prog.lift, Prog.bind_op, Prog.bind_ret, Prog.pure_eq_ret]
  refine done_step m K c (0, 0) (by rfl) (by rfl) (by rfl) ?_
  refine done_step m K c (0, 1) (by rfl) (by rfl) (by rfl) ?_
  exact ret_step c (hQ _)

theorem part38 (v5 w0 w1 : BitVec 32) {Q : _ → sProp 𝕄} (hQ : ∀ r, St m K c 3 21 21 21 4 3 ⊢ Q r) :
    St m K c 3 21 21 21 2 3 ⊢ exec c (onBufs (k0_part38 (F := F)) c v5 w0 w1) Q := by
  rw [k0_part38_eq_skeleton]; unfold onBufs k0_part38_skel
  simp only [Prog.lift, Prog.bind_op, Prog.bind_ret, Prog.pure_eq_ret]
  refine done_step m K c (0, 2) (by rfl) (by rfl) (by rfl) ?_
  refine done_step m K c (0, 3) (by rfl) (by rfl) (by rfl) ?_
  exact ret_step c (hQ _)

theorem part39 (v5 w0 : BitVec 32) {Q : _ → sProp 𝕄} (hQ : ∀ r, St m K c 3 21 21 21 6 3 ⊢ Q r) :
    St m K c 3 21 21 21 4 3 ⊢ exec c (onBufs (k0_part39 (F := F)) c v5 w0) Q := by
  rw [k0_part39_eq_skeleton]; unfold onBufs k0_part39_skel
  simp only [Prog.lift, Prog.bind_op, Prog.bind_ret, Prog.pure_eq_ret]
  refine done_step m K c (0, 4) (by rfl) (by rfl) (by rfl) ?_
  refine done_step m K c (0, 5) (by rfl) (by rfl) (by rfl) ?_
  exact ret_step c (hQ _)

theorem part40 (v5 : BitVec 32) {Q : _ → sProp 𝕄} (hQ : ∀ r, St m K c 3 21 21 21 7 3 ⊢ Q r) :
    St m K c 3 21 21 21 6 3 ⊢ exec c (onBufs (k0_part40 (F := F)) c v5) Q := by
  rw [k0_part40_eq_skeleton]; unfold onBufs k0_part40_skel
  simp only [Prog.lift, Prog.bind_op, Prog.bind_ret, Prog.pure_eq_ret]
  refine done_step m K c (0, 6) (by rfl) (by rfl) (by rfl) ?_
  exact ret_step c (hQ _)

theorem part41 (v5 : BitVec 32) {Q : _ → sProp 𝕄} (hQ : ∀ r, St m K c 3 21 21 21 9 3 ⊢ Q r) :
    St m K c 3 21 21 21 7 3 ⊢ exec c (onBufs (k0_part41 (F := F)) c v5) Q := by
  rw [k0_part41_eq_skeleton]; unfold onBufs k0_part41_skel
  simp only [Prog.lift, Prog.bind_op, Prog.bind_ret, Prog.pure_eq_ret]
  refine done_step m K c (1, 0) (by rfl) (by rfl) (by rfl) ?_
  refine done_step m K c (1, 1) (by rfl) (by rfl) (by rfl) ?_
  exact ret_step c (hQ _)

theorem part42 (v5 : BitVec 32) {Q : _ → sProp 𝕄} (hQ : ∀ r, St m K c 3 21 21 21 11 3 ⊢ Q r) :
    St m K c 3 21 21 21 9 3 ⊢ exec c (onBufs (k0_part42 (F := F)) c v5) Q := by
  rw [k0_part42_eq_skeleton]; unfold onBufs k0_part42_skel
  simp only [Prog.lift, Prog.bind_op, Prog.bind_ret, Prog.pure_eq_ret]
  refine done_step m K c (1, 2) (by rfl) (by rfl) (by rfl) ?_
  refine done_step m K c (1, 3) (by rfl) (by rfl) (by rfl) ?_
  exact ret_step c (hQ _)

theorem part43 (v5 : BitVec 32) {Q : _ → sProp 𝕄} (hQ : ∀ r, St m K c 3 21 21 21 13 3 ⊢ Q r) :
    St m K c 3 21 21 21 11 3 ⊢ exec c (onBufs (k0_part43 (F := F)) c v5) Q := by
  rw [k0_part43_eq_skeleton]; unfold onBufs k0_part43_skel
  simp only [Prog.lift, Prog.bind_op, Prog.bind_ret, Prog.pure_eq_ret]
  refine done_step m K c (1, 4) (by rfl) (by rfl) (by rfl) ?_
  refine done_step m K c (1, 5) (by rfl) (by rfl) (by rfl) ?_
  exact ret_step c (hQ _)

theorem part44 (v5 : BitVec 32) {Q : _ → sProp 𝕄} (hQ : ∀ r, St m K c 3 21 21 21 15 3 ⊢ Q r) :
    St m K c 3 21 21 21 13 3 ⊢ exec c (onBufs (k0_part44 (F := F)) c v5) Q := by
  rw [k0_part44_eq_skeleton]; unfold onBufs k0_part44_skel
  simp only [Prog.lift, Prog.bind_op, Prog.bind_ret, Prog.pure_eq_ret]
  refine done_step m K c (1, 6) (by rfl) (by rfl) (by rfl) ?_
  refine done_step m K c (2, 0) (by rfl) (by rfl) (by rfl) ?_
  exact ret_step c (hQ _)

theorem part45 (v5 : BitVec 32) {Q : _ → sProp 𝕄} (hQ : ∀ r, St m K c 3 21 21 21 17 3 ⊢ Q r) :
    St m K c 3 21 21 21 15 3 ⊢ exec c (onBufs (k0_part45 (F := F)) c v5) Q := by
  rw [k0_part45_eq_skeleton]; unfold onBufs k0_part45_skel
  simp only [Prog.lift, Prog.bind_op, Prog.bind_ret, Prog.pure_eq_ret]
  refine done_step m K c (2, 1) (by rfl) (by rfl) (by rfl) ?_
  refine done_step m K c (2, 2) (by rfl) (by rfl) (by rfl) ?_
  exact ret_step c (hQ _)

theorem part46 (v5 : BitVec 32) {Q : _ → sProp 𝕄} (hQ : ∀ r, St m K c 3 21 21 21 19 3 ⊢ Q r) :
    St m K c 3 21 21 21 17 3 ⊢ exec c (onBufs (k0_part46 (F := F)) c v5) Q := by
  rw [k0_part46_eq_skeleton]; unfold onBufs k0_part46_skel
  simp only [Prog.lift, Prog.bind_op, Prog.bind_ret, Prog.pure_eq_ret]
  refine done_step m K c (2, 3) (by rfl) (by rfl) (by rfl) ?_
  refine done_step m K c (2, 4) (by rfl) (by rfl) (by rfl) ?_
  exact ret_step c (hQ _)

/-! ## The parts together -/

/-- The kernel from its entry: if the entry leaves the first state, the whole leaves the last. -/
theorem parts {P : sProp 𝕄} {Q : PUnit → sProp 𝕄}
    (hE : ∀ Q' : _ → sProp 𝕄, (∀ v2 v5, St m K c 0 0 0 0 0 0 ⊢ Q' ⟨c, v2, v5, k0_pay1 (xst m c)⟩) → P ⊢ exec c (onBufs (k0_part1 (F := F))) Q')
    (hQ : St m K c 3 21 21 21 21 3 ⊢ Q ⟨⟩) : P ⊢ exec c (onBufs (cc0_reorder (F := F))) Q := by
  rw [cc0_reorder_eq_skeleton]; unfold onBufs cc0_reorder_skel
  rw [k0_part47_eq_skeleton]; unfold k0_part47_skel
  rw [exec_bind, exec_bind]
  refine hE _ fun v2 v5 => ?_
  dsimp only
  rw [exec_bind]
  refine part2 m K c _ fun _ => ?_
  rw [exec_bind]
  refine part3 m K c _ _ _ _ _ fun _ => ?_
  rw [exec_bind]
  refine part4 m K c _ _ fun _ => ?_
  rw [exec_bind]
  refine part5 m K c _ _ _ _ fun _ => ?_
  rw [exec_bind]
  refine part6 m K c _ fun _ => ?_
  rw [exec_bind]
  refine part7 m K c _ _ _ fun _ => ?_
  rw [exec_bind]
  refine part8 m K c _ fun _ => ?_
  rw [exec_bind]
  refine part9 m K c _ _ fun _ => ?_
  rw [exec_bind]
  refine part10 m K c _ _ _ fun _ => ?_
  rw [exec_bind]
  refine part11 m K c _ _ _ fun _ => ?_
  rw [exec_bind]
  refine part12 m K c _ _ _ _ fun _ => ?_
  rw [exec_bind]
  refine part13 m K c _ fun _ => ?_
  rw [exec_bind]
  refine part14 m K c _ fun _ => ?_
  rw [exec_bind]
  refine part15 m K c _ _ fun _ => ?_
  rw [exec_bind]
  refine part16 m K c _ fun _ V hV => ?_
  dsimp only
  rw [exec_bind]
  refine part17 m K c _ _ hV fun _ V hV => ?_
  dsimp only
  rw [exec_bind]
  refine part18 m K c _ _ hV fun _ => ?_
  rw [exec_bind]
  refine part19 m K c _ _ fun _ => ?_
  rw [exec_bind]
  refine part20 m K c _ _ _ fun _ => ?_
  rw [exec_bind]
  refine part21 m K c _ _ fun _ => ?_
  dsimp only
  rw [exec_bind]
  refine part22 m K c _ _ fun _ => ?_
  dsimp only
  rw [exec_bind]
  refine part23 m K c _ _ fun _ V hV => ?_
  dsimp only
  rw [exec_bind]
  refine part24 m K c _ _ hV fun _ V hV => ?_
  dsimp only
  rw [exec_bind]
  refine part25 m K c _ _ hV fun V hV => ?_
  rw [exec_bind]
  refine part26 m K c _ hV fun _ => ?_
  rw [exec_bind]
  refine part27 m K c _ _ fun _ => ?_
  rw [exec_bind]
  refine part28 m K c _ _ _ fun _ => ?_
  dsimp only
  rw [exec_bind]
  refine part29 m K c _ _ fun _ => ?_
  rw [exec_bind]
  refine part30 m K c _ _ _ _ fun _ => ?_
  rw [exec_bind]
  refine part31 m K c _ _ _ _ _ fun _ => ?_
  rw [exec_bind]
  refine part32 m K c _ _ _ fun _ => ?_
  rw [exec_bind]
  refine part33 m K c _ _ _ ?_
  dsimp only
  rw [exec_bind]
  refine part34 m K c _ fun V hV => ?_
  rw [exec_bind]
  refine part35 m K c _ _ hV fun _ => ?_
  rw [exec_bind]
  refine part36 m K c _ _ fun _ => ?_
  rw [exec_bind]
  refine part37 m K c _ _ _ fun _ => ?_
  rw [exec_bind]
  refine part38 m K c _ _ _ fun _ => ?_
  rw [exec_bind]
  refine part39 m K c _ _ fun _ => ?_
  rw [exec_bind]
  refine part40 m K c _ fun _ => ?_
  rw [exec_bind]
  refine part41 m K c _ fun _ => ?_
  rw [exec_bind]
  refine part42 m K c _ fun _ => ?_
  rw [exec_bind]
  refine part43 m K c _ fun _ => ?_
  rw [exec_bind]
  refine part44 m K c _ fun _ => ?_
  rw [exec_bind]
  refine part45 m K c _ fun _ => ?_
  rw [exec_bind]
  refine part46 m K c _ fun _ => ?_
  simp only [Prog.lift, Prog.bind_op, Prog.bind_ret, Prog.pure_eq_ret]
  refine done_step m K c (2, 5) (by rfl) (by rfl) (by rfl) ?_
  refine ret_step c ?_
  dsimp only
  refine done_step m K c (2, 6) (by rfl) (by rfl) (by rfl) ?_
  exact ret_step c hQ

end Cert.Exchange

end
-- ==== Proof.Body.lean ====
/-
# The kernel's body on one device, from what the launch hands it to what it hands back
-/
module

public import proofs.«01_k».proof.Proof.Walk

@[expose] public section

set_option backward.proofsInPublic true

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ) (c : Dev nD)

/-! ## Conjunctions over the devices' cells and groups -/

theorem bigSep_fin3 (Φ : Fin 3 → sProp 𝕄) : bigSep Finset.univ Φ = iprop(Φ 0 ∗ Φ 1 ∗ Φ 2) := bigSep_univ_eq_bigSepL [0, 1, 2] (by decide) (by decide) Φ
theorem bigSep_bool (Φ : Bool → sProp 𝕄) : bigSep Finset.univ Φ = iprop(Φ false ∗ Φ true) := bigSep_univ_eq_bigSepL [false, true] (by decide) (by decide) Φ

theorem erase_none : (Finset.univ : Finset CI).erase none = Finset.univ.map Function.Embedding.some := by
  ext k; cases k <;> simp

/-- A device's cells: its barrier, its send semaphores, its receive semaphores. -/
theorem bigSep_CI (Φ : CI → sProp 𝕄) :
    bigSep Finset.univ Φ = iprop(Φ none ∗ bigSep Finset.univ (fun i : T => Φ (some (false, i))) ∗ bigSep Finset.univ (fun i : T => Φ (some (true, i)))) := by
  rw [bigSep_univ_at Φ none, erase_none, bigSep_map, bigSep_univ_prod, bigSep_bool]; rfl

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-! ## Whole buffers, rows and slots -/

theorem slots_disjoint (g : Fin 3) (k k' : Fin 7) (h : k ≠ k') : Disjoint (slotR g k).set (slotR g k').set :=
  Rect.unit_disjoint 0 (by
    have : k.val ≠ k'.val := fun e => h (Fin.ext e)
    show k.val + 1 ≤ k'.val ∨ k'.val + 1 ≤ k.val
    omega)
theorem slots_cover (g : Fin 3) : (Finset.univ.biUnion fun k : Fin 7 => (slotR g k).set) = Finset.univ :=
  Finset.eq_univ_iff_forall.mpr fun j => Finset.mem_biUnion.mpr ⟨j 0, Finset.mem_univ _, Rect.mem_set_unit.mpr fun a => by
    match a with
    | ⟨0, _⟩ => exact ⟨Nat.le_refl _, Nat.lt_succ_self _⟩
    | ⟨1, _⟩ => exact ⟨Nat.zero_le _, (Nat.zero_add _).symm ▸ (j 1).isLt⟩
    | ⟨2, _⟩ => exact ⟨Nat.zero_le _, (Nat.zero_add _).symm ▸ (j 2).isLt⟩⟩

/-- A slot at some contents, as it is laid out and as a transfer names it. -/
theorem slot_some (i : T) : (iprop(∃ X, ownsTc c (slotM i) fullShare X) : sProp 𝕄) ⊢ slotSome c i := by
  iintro ⟨%X, H⟩
  ihave H := (owns_open c (slotM i) X) $$ H
  icases H with ⟨%f, -, H⟩
  unfold slotSome
  iexists _
  iapply (owns_shut c (bufM i) (f := f) rfl)
  rw [show (bufM i).view.set = (slotM i).view.set from View.set_reshape _ _]
  iexact H
theorem some_slot (i : T) : (slotSome c i : sProp 𝕄) ⊢ ownsSat (c : Thread nD τ) (slotM i) fullShare (fun _ => True) := by
  unfold slotSome
  iintro ⟨%X, H⟩
  ihave H := (owns_open c (bufM i) X) $$ H
  icases H with ⟨%f, -, H⟩
  iapply (ownsSat_of (c : Thread nD τ) (slotM i) fullShare (Φ := fun _ => True) (f := f) trivial)
  rw [← show (bufM i).view.set = (slotM i).view.set from View.set_reshape _ _]
  iexact H

/-- The landing slots of a group, apart and together. -/
theorem slots_split (g : Fin 3) : (iprop(∃ X, ownsTc c (bufA g) fullShare X) : sProp 𝕄) ⊢ bigSep Finset.univ fun k : Fin 7 => slotSome c (g, k) := by
  iintro ⟨%X, H⟩
  ihave H := (owns_rects (c : Thread nD τ) (bufA g) fullShare (slotR g) (fun _ _ => rfl) (slots_disjoint g) (slots_cover g) X) $$ H
  iapply (show (bigSep Finset.univ fun k : Fin 7 => ownsTc c (slotM (g, k)) fullShare fun j => X ((slotR g k).emb j)) ⊢ bigSep Finset.univ fun k : Fin 7 => slotSome (F := F) c (g, k) from
    bigSep_mono fun k _ => by
      refine BIBase.Entails.trans ?_ (slot_some c (g, k))
      iintro H; iexists _; iexact H)
  iexact H
theorem slots_join (g : Fin 3) : (bigSep Finset.univ fun k : Fin 7 => slotSome c (g, k)) ⊢ (iprop(∃ X, ownsTc c (bufA g) fullShare X) : sProp 𝕄) :=
  (bigSep_mono fun k _ => some_slot c (g, k)).trans
    ((ownsSat_of_rects (c : Thread nD τ) (bufA g) fullShare (slotR g) (fun _ _ => rfl) (slots_disjoint g) (slots_cover g) (Ψ := fun _ _ => True)).trans
      (ownsSat_any (c : Thread nD τ) (bufA g) fullShare))

/-- A row chunk at some contents; the chunks of a group together. -/
def chunkSome (g : Fin 3) (s : Fin 8) : sProp 𝕄 := iprop(∃ X, ownsTc c (chunkM g (xr c s)) fullShare X)
theorem chunks_join (g : Fin 3) : (bigSep Finset.univ fun s : Fin 8 => chunkSome c g s) ⊢ (iprop(∃ X, ownsTc c (accM g) fullShare X) : sProp 𝕄) :=
  (bigSep_mono fun s _ => show chunkSome c g s ⊢ ownsSat (c : Thread nD τ) (chunkM g (xr c s)) fullShare (fun _ => True) from by
    unfold chunkSome; exact (ownsSat_true (c : Thread nD τ) (chunkM g (xr c s)) fullShare).2).trans
    ((ownsSat_of_rects (c : Thread nD τ) (accM g) fullShare (fun s : Fin 8 => rowR g (xr c s)) (fun _ _ => rfl) (rows_disjoint g c) (rows_cover g c) (Ψ := fun _ _ => True)).trans
      (ownsSat_any (c : Thread nD τ) (accM g) fullShare))

theorem erase_zero (g : Fin 3) : (Finset.univ : Finset (Fin 8)).erase 0 = Finset.univ.map ⟨src g, fun k k' => src_inj g k k'⟩ := by
  ext s; constructor
  · intro h
    obtain ⟨k, hk⟩ := src_surj g s (Finset.ne_of_mem_erase h)
    exact Finset.mem_map.mpr ⟨k, Finset.mem_univ _, hk⟩
  · intro h
    obtain ⟨k, -, rfl⟩ := Finset.mem_map.mp h
    exact Finset.mem_erase.mpr ⟨src_ne_zero g k, Finset.mem_univ _⟩

/-- The chunk a group keeps and the seven sent are all of them. -/
theorem chunks_all (g : Fin 3) : iprop(chunkSome (F := F) c g 0 ∗ bigSep Finset.univ fun k : Fin 7 => sndPay c (g, k)) ⊢ (iprop(∃ X, ownsTc c (accM g) fullShare X) : sProp 𝕄) := by
  refine Entails.trans (Entails.of_eq ?_) (chunks_join c g)
  rw [bigSep_univ_at (fun s : Fin 8 => chunkSome c g s) 0, erase_zero g, bigSep_map]
  rfl

theorem whole_some (b : Ref sig .tc) : (iprop(∃ X, owns (Ix := Unit) (Name := ℕ) (U := UU) (Lvl := ℕ) (c : Thread nD τ) (Memref.whole b) fullShare X) : sProp 𝕄)
    = iprop(∃ f : Buf (Elt F) ((c : Thread nD τ).loc b), ((c : Thread nD τ).loc b) ↦{fullShare} f) := by
  simp only [owns_whole]

theorem sep_three (A B C R : sProp 𝕄) : iprop(A ∗ B ∗ C ∗ R) = iprop((A ∗ B ∗ C) ∗ R) := by
  have h₁ : iprop(A ∗ B ∗ C ∗ R) ⊢ iprop((A ∗ B ∗ C) ∗ R) := by
    iintro ⟨H0, H1, H2, H3⟩
    isplitl [H0 H1 H2]
    · isplitl [H0]; · iexact H0
      isplitl [H1]; · iexact H1
      iexact H2
    iexact H3
  have h₂ : iprop((A ∗ B ∗ C) ∗ R) ⊢ iprop(A ∗ B ∗ C ∗ R) := by
    iintro ⟨⟨H0, H1, H2⟩, H3⟩
    isplitl [H0]; · iexact H0
    isplitl [H1]; · iexact H1
    isplitl [H2]; · iexact H2
    iexact H3
  exact equiv_iff.mp ⟨h₁, h₂⟩

/-- The kernel's own buffers: the three accumulators and the three groups' slots. -/
theorem scratch_eq : (Pipeline.scopedRest (Ix := Unit) (Name := ℕ) (U := UU) (Lvl := ℕ) (Val := Elt F) spec0 c : sProp 𝕄)
    = iprop((bigSep Finset.univ fun g : Fin 3 => iprop(∃ X, ownsTc c (accM g) fullShare X)) ∗ bigSep Finset.univ fun g : Fin 3 => iprop(∃ X, ownsTc c (bufA g) fullShare X)) := by
  rw [scopedRest0_eq, bigSep_fin3, bigSep_fin3]
  simp only [← whole_some c]
  exact sep_three _ _ _ _

/-! ## The barrier -/

/-- The device's slots are what its three signals hand over. -/
theorem slots_deal : (bigSep Finset.univ fun i : T => slotSome (F := F) c i) = bigSep Finset.univ fun j : Fin 3 => barPay (xr c (bit j)) j := by
  unfold barPay
  rw [bigSep_univ_comm]
  refine bigSep_congr fun i _ => ?_
  obtain ⟨j, hj, hne⟩ := bit_mm i
  rw [bigSep_univ_at _ j, if_pos hj, bigSep_congr (Ψ := fun _ => iprop(emp)) fun j' hj' => if_neg (hne j' (Finset.ne_of_mem_erase hj')), hj, xr_self]
  exact ((congrArg (fun P => iprop(slotSome (F := F) c i ∗ P)) (bigSep_emp_const _)).trans (sep_emp_eq _)).symm

/-- One signal: a unit to the partner along an axis, with the slots that partner fills. -/
theorem signal_step {α : Type} {Q : α → sProp (MT nD τ sig Unit (Elt F) ℕ UU ℕ)} (j : Fin 3) {n : Dev nD → Dev nD} (hn : ∀ d, n d = xr d (bit j))
    {O : CellTallies nD τ sig Unit} {W : Waits sig Unit} {a : ℤ} (ha : a = 1) {k : PUnit → Prog (TpuEff nD τ sig (Elt F) Λ₀ .tc) α} :
    iprop(records m K ∗ owes (c : Thread nD τ) (O + tallyAt (barCell (xr c (bit j))) () 1) W ∗ dutyTok ER (barCell (xr c (bit j))) 0 j ∗ barPay (xr c (bit j)) j)
      ⊢ iprop((owes (c : Thread nD τ) O W -∗ exec c (k ⟨⟩) Q) -∗ exec c (.op (.semSignal (n c : Thread nD τ) barS a) k) Q) := by
  subst ha
  rw [hn]
  iintro ⟨#HK, Ho, Ht, Hp⟩ Hk
  ihave H := (records_cell m K (xr c (bit j), none)) $$ HK
  icases H with ⟨#HI, #HR⟩
  iapply (Rounds.wp_signal 𝒱₀ ER (Rd m) (c : Thread nD τ) none (dst := (xr c (bit j) : Thread nD τ)) (sem := barS) (κ := K (xr c (bit j), none))
    (r := 0) (d := j) (k' := 1) (by rw [duties_bar]; exact Finset.mem_univ _) (amount_bar m (xr c (bit j)) j) () O rfl) $$ [Ho Ht Hp]
  · isplitr; · iexact HI
    isplitl [Ho]; · iexact Ho
    isplitl [Ht]; · iexact Ht
    isplitl [Hp]; · rw [payload_bar]; iexact Hp
    iexact HR
  iexact Hk

/-! ## What the launch hands a device, and the entry -/

/-- The tokens of the duties the device pays. -/
def payToks : sProp 𝕄 :=
  iprop((bigSep Finset.univ fun j : Fin 3 => dutyTok ER (barCell (xr c (bit j))) 0 j)
    ∗ (bigSep Finset.univ fun i : T => dutyTok ER (xCell false c i) 0 0) ∗ bigSep Finset.univ fun i : T => dutyTok ER (xCell true (xr c (mm i)) i) 0 0)

/-- What the protocol hands a device: the records, its places, its tokens. -/
def ghost : sProp 𝕄 := iprop(records m K ∗ (bigSep Finset.univ fun k : CI => atPos ER (kcell (c, k)) 0 ∅ 0) ∗ payToks c)

/-- The credits of a device's cells. -/
def credits : sProp 𝕄 := iprop(cred (tallyAt (barCell c) () 3) ∗ bigSep Finset.univ fun i : T => cred (tallyAt (xCell true c i) () (N i.1)))

/-- What the body starts from. -/
def bodyIn : sProp 𝕄 :=
  iprop(ghost m K c ∗ credits c ∗ Pipeline.scopedRest cfg0.spec c ∗ (∃ W, owes (c : Thread nD τ) (O₀ c) W)
    ∗ ownsTc c xM fullShare (xst m c) ∗ ownsTc c wM fullShare (wst m c) ∗ ∃ X, ownsTc c oM fullShare X)

theorem emp_all {I : Type} [Fintype I] [DecidableEq I] {Φ : I → sProp 𝕄} (h : ∀ i, Φ i = iprop(emp)) : (iprop(emp) : sProp 𝕄) ⊢ bigSep Finset.univ Φ :=
  Entails.of_eq ((bigSep_congr fun i _ => h i).trans (bigSep_emp_const _)).symm

set_option maxHeartbeats 800000 in
/-- The entry: three signals, the wait for three, the first read of `x`. -/
theorem entry (Q : _ → sProp 𝕄) (hQ : ∀ v2 v5, St m K c 0 0 0 0 0 0 ⊢ Q ⟨c, v2, v5, k0_pay1 (xst m c)⟩) :
    bodyIn m K c ⊢ exec c (onBufs (k0_part1 (F := F))) Q := by
  rw [k0_part1_eq_skeleton]; unfold onBufs k0_part1_skel
  simp only [semSignalWord, semWaitWord, Prog.lift, Prog.bind_op, Prog.bind_ret, Prog.pure_eq_ret, wp_deviceId]
  unfold bodyIn ghost credits payToks
  rw [show cfg0.spec = spec0 from rfl, scratch_eq, bigSep_CI, bigSep_fin3 (fun j : Fin 3 => dutyTok ER (barCell (xr c (bit j))) 0 j)]
  iintro ⟨⟨#HK, ⟨HatB, HatS, HatR⟩, ⟨Ht1, Ht2, Ht3⟩, HtS, HtR⟩, ⟨HcB, HcR⟩, ⟨HA, HB⟩, ⟨%W, Ho⟩, Hx, Hw, ⟨%X, HO⟩⟩
  ihave HB := (show (bigSep Finset.univ fun g : Fin 3 => iprop(∃ X, ownsTc c (bufA g) fullShare X)) ⊢ bigSep Finset.univ fun j : Fin 3 => barPay (F := F) (xr c (bit j)) j from
    (bigSep_mono fun g _ => slots_split c g).trans (Entails.of_eq ((bigSep_univ_prod fun i : T => slotSome (F := F) c i).symm.trans (slots_deal c)))) $$ HB
  ihave HB := (Entails.of_eq (bigSep_fin3 fun j : Fin 3 => barPay (F := F) (xr c (bit j)) j)) $$ HB
  icases HB with ⟨H1, H2, H3⟩
  iapply (signal_step m K c 0 (n := fun d => ⟨k0_dev1 d, k0_dev1_lt d⟩) (by decide +kernel) (O := O₁ c) (W := W) (a := (1#32 : BitVec 32).toInt) (by decide)) $$ [Ho Ht1 H1]
  · isplitr; · iexact HK
    isplitl [Ho]; · iexact Ho
    isplitl [Ht1] <;> iassumption
  iintro Ho
  iapply (signal_step m K c 1 (n := fun d => ⟨k0_dev2 d, k0_dev2_lt d⟩) (by decide +kernel) (O := O₂ c) (W := W) (a := (1#32 : BitVec 32).toInt) (by decide)) $$ [Ho Ht2 H2]
  · isplitr; · iexact HK
    isplitl [Ho]; · iexact Ho
    isplitl [Ht2] <;> iassumption
  iintro Ho
  iapply (signal_step m K c 2 (n := fun d => ⟨k0_dev3 d, k0_dev3_lt d⟩) (by decide +kernel) (O := Owed c 0) (W := W) (a := (1#32 : BitVec 32).toInt) (by decide)) $$ [Ho Ht3 H3]
  · isplitr; · iexact HK
    isplitl [Ho]; · iexact Ho
    isplitl [Ht3] <;> iassumption
  iintro Ho
  ihave HKb := (records_cell m K (c, none)) $$ HK
  icases HKb with ⟨#HIb, -⟩
  iapply (Rounds.wp_wait_rest_token 𝒱₀ ER (Rd m) (c : Thread nD τ) none (κ := K (c, none))
      (wpE_semWait_eq 𝒱₀ (c : Thread nD τ) none Set.univ) (Set.mem_univ _) () (O := Owed c 0) (W := W) (R := 0) (m := 0) (T := ∅)
      (by rw [expect_bar]; decide)) $$ [HcB Ho HatB]
  · isplitr; · iexact HIb
    isplitl [HcB]; · iexact HcB
    isplitl [Ho]; · iexact Ho
    isplitr
    · iapply (mayWait_owed c (.reg barS) 0 fun i _ => by show 1 < _; omega)
      iapply (records_lev m K); iexact HK
    iexact HatB
  iintro ⟨Ho, HatB, -, Hpay⟩
  ihave Hp := (Entails.of_eq (rest_bar m c)) $$ Hpay
  iapply (load_x m K c (nC := 0) (nS := 0) (nR := 0) (nA := 0) (nW := 0) (nO := 0) (ret_step c (hQ _ _)))
  unfold St outHeld owedS
  isplitr; · iexact HK
  isplitl [HatB]; · iexact HatB
  isplitl [Hx]; · iexact Hx
  isplitl [Hw]; · iexact Hw
  isplitl [HO]
  · ihave HO := (owns_open c oM X) $$ HO
    icases HO with ⟨%f, -, HO⟩
    iexists f
    isplitr; · ipureintro; exact fun g hg => absurd hg (Nat.not_lt_zero _)
    iexact HO
  isplitl [Ho]; · iexists _; iexact Ho
  isplitl [HA]
  · iapply (Entails.of_eq (bigSep_congr (Ψ := accAt (F := F) c 0) fun g _ => (if_neg (Nat.not_lt_zero _)).symm)); iexact HA
  isplitr
  · iapply (emp_all (Φ := chunkAt m c 0 0 0) fun gs => if_neg (Nat.not_lt_zero _)); iempintro
  isplitl [HatS HtS HtR Hp]
  · iapply (Entails.of_eq (show iprop((bigSep Finset.univ fun i : T => dutyTok ER (xCell false c i) 0 0) ∗ (bigSep Finset.univ fun i : T => dutyTok ER (xCell true (xr c (mm i)) i) 0 0)
        ∗ (bigSep Finset.univ fun i : T => slotSome (F := F) (xr c (mm i)) i) ∗ bigSep Finset.univ fun i : T => atPos ER (xCell false c i) 0 ∅ 0) = bigSep Finset.univ (sndAt (F := F) c 0 0) by
      rw [← bigSep_sep', ← bigSep_sep', ← bigSep_sep']
      exact bigSep_congr fun i _ => ((if_neg (Nat.not_lt_zero _)).trans (if_neg (Nat.not_lt_zero _))).symm))
    isplitl [HtS]; · iexact HtS
    isplitl [HtR]; · iexact HtR
    isplitl [Hp]; · iexact Hp
    iexact HatS
  · iapply (Entails.of_eq (show iprop((bigSep Finset.univ fun i : T => cred (tallyAt (xCell true c i) () (N i.1))) ∗ bigSep Finset.univ fun i : T => atPos ER (xCell true c i) 0 ∅ 0)
        = bigSep Finset.univ (rcvAt (F := F) m c 0) by
      rw [← bigSep_sep']
      exact bigSep_congr fun i _ => (if_neg (Nat.not_lt_zero _)).symm))
    isplitl [HcR]; · iexact HcR
    iexact HatR

/-! ## The exit -/

theorem cols_cover : (Finset.univ.biUnion fun g : Fin 3 => (colR g).set) = Finset.univ :=
  Finset.eq_univ_iff_forall.mpr fun j => by
    have h0 : (j 0).val < 128 := (j 0).isLt
    have h1 : (j 1).val < 1024 := (j 1).isLt
    have key (g : Fin 3) (ha : off g ≤ (j 1).val) (hb : (j 1).val < off g + wd g) : ∃ g : Fin 3, j ∈ (colR g).set :=
      ⟨g, Rect.mem_set_unit.mpr fun a => by
        match a with
        | ⟨0, _⟩ => exact ⟨Nat.zero_le _, (Nat.zero_add _).symm ▸ h0⟩
        | ⟨1, _⟩ => exact ⟨ha, hb⟩⟩
    have : ∃ g : Fin 3, j ∈ (colR g).set := by
      by_cases ha : (j 1).val < 384
      · exact key 0 (Nat.zero_le _) ha
      · by_cases hb : (j 1).val < 768
        · exact key 1 (by show 384 ≤ _; omega) hb
        · exact key 2 (by show 768 ≤ _; omega) h1
    obtain ⟨g, hg⟩ := this
    exact Finset.mem_biUnion.mpr ⟨g, Finset.mem_univ _, hg⟩

/-- The rows of the result a device ends with: each column group as computed. -/
def outAt : S128x1024.Idx → Elt F .f32 := Rect.glue colR cols_cover (outG m c)

theorem outAt_col (g : Fin 3) (j : (Sc g).Idx) : outAt m c ((colR g).emb j) = outG m c g j :=
  Rect.glue_emb colR cols_cover col_disjoint (outG m c) g j

theorem out_all (f : S128x1024.Idx → Elt F .f32) (h : ∀ g : Fin 3, (fun j => f ((colR g).emb j)) = outG m c g) : f = outAt m c := funext fun j => by
  obtain ⟨g, -, hg⟩ := Finset.mem_biUnion.mp (cols_cover.symm ▸ Finset.mem_univ j)
  rw [← Rect.map_emb_univ, Finset.mem_map] at hg
  obtain ⟨y, -, rfl⟩ := hg
  exact (congrFun (h g) y).trans (outAt_col m c g y).symm

/-- Every semaphore of the device at zero. -/
def semsZero : sProp 𝕄 := bigSep Finset.univ fun k : CI => semVal (kcell (c, k)) 0

/-- What the body ends with. -/
def bodyOut : sProp 𝕄 :=
  iprop(semsZero c ∗ Pipeline.scopedRest cfg0.spec c ∗ (∃ W, owes (c : Thread nD τ) 0 W)
    ∗ ownsTc c xM fullShare (xst m c) ∗ ownsTc c wM fullShare (wst m c) ∗ ownsTc c oM fullShare (outAt m c))

theorem close_all : iprop(records m K ∗ bigSep Finset.univ fun k : CI => atPos ER (kcell (c, k)) 1 ∅ 0) ⊢ |={Set.univ}=> (semsZero (F := F) c) :=
  (bigSep_with_persistent fun k _ => by
    iintro ⟨#HK, Hat⟩
    ihave H := (records_cell m K (c, k)) $$ HK
    icases H with ⟨#HI, -⟩
    iapply (Rounds.cell_close ER (Rd m) (Set.mem_univ (K (c, k))) (fun h => h) (R := 1) (duties_later m (kcell (c, k))))
    isplitr; · iexact HI
    iexact Hat).trans (bigSep_fupd _ _)

/-- The exit: everything landed, added and waited for, the semaphores closed and the buffers whole again. -/
theorem finish : St m K c 3 21 21 21 21 3 ⊢ |={Set.univ}=> bodyOut m c := by
  unfold St outHeld owedS
  iintro ⟨#HK, HatB, Hx, Hw, ⟨%f, %hf, HO⟩, ⟨%W, Ho⟩, -, HC, HS, HR⟩
  ihave HS := (Entails.of_eq (show bigSep Finset.univ (sndAt (F := F) c 21 21)
      = iprop((bigSep Finset.univ fun i : T => atPos ER (xCell false c i) 1 ∅ 0) ∗ bigSep Finset.univ fun i : T => sndPay c i) by
    rw [← bigSep_sep']; exact bigSep_congr fun i _ => if_pos (posD_lt i))) $$ HS
  icases HS with ⟨HatS, HS⟩
  ihave HR := (Entails.of_eq (show bigSep Finset.univ (rcvAt m c 21)
      = iprop((bigSep Finset.univ fun i : T => atPos ER (xCell true c i) 1 ∅ 0) ∗ bigSep Finset.univ fun i : T => rcvPay m c i) by
    rw [← bigSep_sep']; exact bigSep_congr fun i _ => if_pos (posR_lt i))) $$ HR
  icases HR with ⟨HatR, HR⟩
  imod (close_all m K c) $$ [HatB HatS HatR] with Hz
  · isplitr; · iexact HK
    rw [bigSep_CI]
    isplitl [HatB]; · iexact HatB
    isplitl [HatS] <;> iassumption
  imodintro
  unfold bodyOut
  isplitl [Hz]; · iexact Hz
  isplitl [HC HS HR]
  · rw [show cfg0.spec = spec0 from rfl, scratch_eq]
    isplitl [HC HS]
    · iapply (show iprop((bigSep Finset.univ fun g : Fin 3 => chunkSome (F := F) c g 0) ∗ bigSep Finset.univ fun g : Fin 3 => bigSep Finset.univ fun k : Fin 7 => sndPay c (g, k))
          ⊢ bigSep Finset.univ fun g : Fin 3 => iprop(∃ X, ownsTc c (accM g) fullShare X) from by
        rw [← bigSep_sep']; exact bigSep_mono fun g _ => chunks_all c g)
      isplitl [HC]
      · iapply (show bigSep Finset.univ (chunkAt m c 3 21 21) ⊢ bigSep Finset.univ fun g : Fin 3 => chunkSome (F := F) c g 0 from by
          rw [bigSep_univ_prod]
          refine bigSep_mono fun g _ => ?_
          rw [bigSep_univ_at _ (0 : Fin 8)]
          have h : chunkAt m c 3 21 21 (g, 0) = ownsTc c (chunkM g (xr c 0)) fullShare (Ac m g (lvl 21 g 0) c (xr c 0)) := by
            unfold chunkAt
            rw [if_pos g.isLt, if_neg fun ⟨k, hk, _⟩ => src_ne_zero g k hk]
          rw [h]
          refine BIBase.Entails.trans (Q := ownsTc c (chunkM g (xr c 0)) fullShare (Ac m g (lvl 21 g 0) c (xr c 0))) ?_ ?_
          · iintro ⟨H, -⟩; iexact H
          · unfold chunkSome; iintro H; iexists _; iexact H)
        iexact HC
      · iapply (Entails.of_eq (bigSep_univ_prod fun i : T => sndPay (F := F) c i)); iexact HS
    · iapply (show (bigSep Finset.univ fun i : T => rcvPay m c i) ⊢ bigSep Finset.univ fun g : Fin 3 => (iprop(∃ X, ownsTc c (bufA g) fullShare X) : sProp 𝕄) from by
        rw [bigSep_univ_prod]
        refine bigSep_mono fun g _ => BIBase.Entails.trans (bigSep_mono fun k _ => ?_) (slots_join c g)
        show rcvPay m c (g, k) ⊢ slotSome c (g, k)
        unfold rcvPay slotSome
        iintro H; iexists _; iexact H)
      iexact HR
  isplitl [Ho]
  · iexists W; rw [← Owed_end c]; iexact Ho
  isplitl [Hx]; · iexact Hx
  isplitl [Hw]; · iexact Hw
  iapply (owns_shut c oM (f := f) (out_all m c f fun g => hf g g.isLt))
  iexact HO

/-- A last ghost step may follow a program. -/
theorem exec_fupd {α : Type} (p : Prog (TpuEff nD τ sig (Elt F) Λ₀ .tc) α) (R : sProp (MT nD τ sig Unit (Elt F) ℕ UU ℕ)) (P : sProp (MT nD τ sig Unit (Elt F) ℕ UU ℕ))
    (h : P ⊢ exec c p fun _ => iprop(|={Set.univ}=> R)) : P ⊢ exec c p fun _ => R :=
  h.trans (wp_fupd _ _ _ _ _)

/-- The body, from what the launch hands it to what it hands back. -/
theorem body_run : bodyIn m K c ⊢ exec c (onBufs (cc0_reorder (F := F))) fun _ => bodyOut m c :=
  exec_fupd c _ _ _ (parts m K c (Q := fun _ => iprop(|={Set.univ}=> bodyOut m c)) (fun Q' h => entry m K c Q' h) (finish m K c))

end Cert.Exchange
-- ==== Proof.Launch.lean ====
/-
# The launch: what every device is dealt, and the run of the whole program

The semaphores' cells are opened on all devices at once and their tokens dealt to whoever pays them; the body's
run then gives the result array of every device, and every semaphore at zero.
-/
module

public import proofs.«01_k».proof.Proof.Body
public import Idealize.ShloMosaic.Lib.Pipeline.CollectiveSegs

@[expose] public section

set_option backward.proofsInPublic true

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The proof data and the body obligation -/

/-- What a device starts from besides its buffers. -/
def start (c : Dev nD) : sProp 𝕄 := iprop((∃ K, ghost m K c) ∗ credits c)

def Φ₀ (c : Dev nD) : sProp 𝕄 := iprop(start m c ∗ Pipeline.scopedRest cfg0.spec c)
def Φ₁ (c : Dev nD) : sProp 𝕄 := iprop(semsZero c ∗ Pipeline.scopedRest cfg0.spec c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xst m c
    | ⟨1, _⟩ => wst m c
    | ⟨2, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 3) ∗ Φ (1 : Fin 3) ∗ Φ (2 : Fin 3)) := bigSep_W0 Φ

theorem before_x (c : Dev nD) (d) : (dats m ρ 0 c).before (0 : Fin 3) t0_0 d = xst m c := by
  unfold Dat.before; rw [if_pos (fetch0_0 t0_0)]; rfl
theorem before_w (c : Dev nD) (d) : (dats m ρ 0 c).before (1 : Fin 3) t0_0 d = wst m c := by
  unfold Dat.before; rw [if_pos (fetch0_1 t0_0)]; rfl

/-- The body's start and end, as the launch states them. -/
def bodyPre (c : Dev nD) : sProp 𝕄 :=
  iprop(Φ₀ m c ∗ (dats m ρ 0 c).owesAt () (t0_0 : Fin cfg0.N).castSucc
    ∗ (∃ d, ownsTc c xM fullShare ((dats m ρ 0 c).before (0 : Fin 3) t0_0 d))
    ∗ (∃ d, ownsTc c wM fullShare ((dats m ρ 0 c).before (1 : Fin 3) t0_0 d))
    ∗ (∃ d, ownsTc c oM fullShare ((dats m ρ 0 c).before (2 : Fin 3) t0_0 d)))
def bodyPost (c : Dev nD) : sProp 𝕄 :=
  iprop(Φ₁ c ∗ (dats m ρ 0 c).owesAt () (t0_0 : Fin cfg0.N).succ
    ∗ ownsTc c xM fullShare (xst m c) ∗ ownsTc c wM fullShare (wst m c) ∗ ownsTc c oM fullShare (outAt m c))

theorem pre_in (c : Dev nD) : bodyPre m ρ c ⊢ iprop(∃ K, bodyIn m K c) := by
  unfold bodyPre Φ₀ start
  iintro ⟨⟨⟨⟨%K, Hg⟩, Hc⟩, Hs⟩, Ho, ⟨%d0, Hx⟩, ⟨%d1, Hw⟩, ⟨%d2, HO⟩⟩
  iexists K
  unfold bodyIn Dat.owesAt Pipeline.owesWithin
  icases Ho with ⟨%W, -, Ho⟩
  isplitl [Hg]; · iexact Hg
  isplitl [Hc]; · iexact Hc
  isplitl [Hs]; · iexact Hs
  isplitl [Ho]
  · iexists W
    rw [show (dats m ρ 0 c).owed (t0_0 : Fin cfg0.N).castSucc = O₀ c from rfl]
    iexact Ho
  isplitl [Hx]; · rw [before_x]; iexact Hx
  isplitl [Hw]; · rw [before_w]; iexact Hw
  iexists _; iexact HO

theorem out_post (c : Dev nD) : bodyOut m c ⊢ bodyPost m ρ c := by
  unfold bodyOut bodyPost Φ₁ Dat.owesAt Pipeline.owesWithin
  iintro ⟨Hz, Hs, ⟨%W, Ho⟩, H⟩
  isplitl [Hz Hs]
  · isplitl [Hz] <;> iassumption
  isplitl [Ho]
  · iexists W
    isplitr; · ipureintro; exact fun _ _ => Or.inl trivial
    rw [show (dats m ρ 0 c).owed (t0_0 : Fin cfg0.N).succ = 0 from rfl]
    iexact Ho
  iexact H

theorem exec_mono {α : Type} (c : Dev nD) (p : Prog (TpuEff nD τ sig (Elt F) Λ₀ .tc) α) {P R : sProp (MT nD τ sig Unit (Elt F) ℕ UU ℕ)} (h : P ⊢ R) :
    exec c p (fun _ => P) ⊢ exec c p fun _ => R :=
  wp_mono _ _ _ fun _ => h

theorem sound_body (c : Dev nD) : bodyPre m ρ c ⊢ exec c (onBufs (cc0_reorder (F := F))) fun _ => bodyPost m ρ c := by
  refine BIBase.Entails.trans (pre_in m ρ c) ?_
  iintro ⟨%K, H⟩
  iapply (exec_mono c (onBufs (cc0_reorder (F := F))) (out_post m ρ c))
  iapply (body_run m K c)
  iexact H

set_option maxRecDepth 20000 in
/-- The library's body obligation on a device. -/
theorem body_obligation (c : Dev nD) : BodyObligation (dats (F := F) m ρ 0 c) (defs₀ (F := F)) 𝒱₀ () Set.univ := fun t => by
  rw [show t = t0_0 from fin_N0 t]
  rw [bigSep_W, bigSep_W]
  show bodyPre m ρ c ⊢ exec c (bodyAt0 (F := F) t0_0) fun _ => bodyPost m ρ c
  exact sound_body m ρ c

/-! ## The cells and their tokens -/

theorem ownSemFacts : Pipeline.OwnSemFacts cfg0.spec osem := by decide +kernel

theorem share_eq (c : Dev nD) (w : Fin cfg0.W) : (dats m ρ 0 c).share w = fullShare := by unfold Dat.share; split <;> rfl

theorem reg_ne_dma {a : Sem sig} {q : DmaSem sig} (h : SemLoc.reg a = SemLoc.dma q) : False := by cases h

theorem csem_injective : Function.Injective csem := by
  rintro (_ | ⟨b, i⟩) (_ | ⟨b', i'⟩) h
  · rfl
  · exact (reg_ne_dma h).elim
  · exact (reg_ne_dma h.symm).elim
  · obtain ⟨rfl, rfl⟩ := xS_inj (SemLoc.dma.inj h); rfl

theorem kcell_injective : Function.Injective (kcell : Dev nD × CI → GSem nD τ sig) := by
  rintro ⟨c, k⟩ ⟨c', k'⟩ h
  have h1 : c = c' := congrArg (fun g : GSem nD τ sig => g.1.1) h
  have h2 : k = k' := csem_injective (congrArg Prod.snd h)
  subst h1 h2; rfl

def theCells : Finset (GSem nD τ sig) := Finset.univ.map ⟨kcell, kcell_injective⟩

/-- A device's own cells' duties: three of its barrier, one of each send and receive cell. -/
abbrev tokOf (x : Dev nD × (Fin 3 ⊕ Bool × T)) : GSem nD τ sig × ℕ × Fin 3 :=
  match x.2 with | .inl j => (kcell (x.1, none), 0, j) | .inr k => (kcell (x.1, some k), 0, 0)

theorem tokOf_injective : Function.Injective tokOf := by
  rintro ⟨c, j | k⟩ ⟨c', j' | k'⟩ h
  · have h1 := congrArg Prod.fst (kcell_injective (congrArg Prod.fst h))
    have h2 : j = j' := congrArg (fun x : GSem nD τ sig × ℕ × Fin 3 => x.2.2) h
    dsimp only at h1; subst h1 h2; rfl
  · have h1 := congrArg Prod.snd (kcell_injective (congrArg Prod.fst h))
    cases h1
  · have h1 := congrArg Prod.snd (kcell_injective (congrArg Prod.fst h))
    cases h1
  · have h1 := kcell_injective (congrArg Prod.fst h)
    cases h1; rfl

def theToks : Finset (GSem nD τ sig × ℕ × Fin 3) := Finset.univ.map ⟨tokOf, tokOf_injective⟩

def u₀ : UU := (initOf (Pipeline.cells cfgs cellOf_inj) (Pipeline.launchToks cfgs cellOf_inj), initOf theCells theToks)

/-- The duty tokens of a device's own cells. -/
def toks (c : Dev nD) : sProp 𝕄 :=
  iprop((bigSep Finset.univ fun j : Fin 3 => dutyTok ER (barCell c) 0 j)
    ∗ (bigSep Finset.univ fun i : T => dutyTok ER (xCell false c i) 0 0) ∗ bigSep Finset.univ fun i : T => dutyTok ER (xCell true c i) 0 0)

/-- What the launch element deals a device, and what the opening of the cells makes of it. -/
def G (c : Dev nD) : sProp 𝕄 :=
  iprop((bigSep Finset.univ fun k : CI => roundState ER (Rd m) (kcell (c, k)) 0)
    ∗ (bigSep Finset.univ fun k : CI => iprop(atPos ER (kcell (c, k)) 0 ∅ 0 ∗ reached ER (kcell (c, k)) 0)) ∗ toks c)

def recs (K : Dev nD × CI → ℕ) : sProp 𝕄 :=
  iprop((bigSep Finset.univ fun ck => cellInv ER (Rd m) (K ck) (kcell ck)) ∗ bigSep Finset.univ fun ck => reached ER (kcell ck) 0)

instance recs_persistent (K : Dev nD × CI → ℕ) : BI.Persistent (recs (F := F) m K) := by unfold recs; infer_instance

def linear (c : Dev nD) : sProp 𝕄 := iprop((bigSep Finset.univ fun k : CI => atPos ER (kcell (c, k)) 0 ∅ 0) ∗ payToks c)

def G' (c : Dev nD) : sProp 𝕄 := iprop(∃ K, recs m K ∗ linear c)

theorem fund_cells : BI.own (ER (initOf theCells theToks)) ⊢ (|==> bigSep Finset.univ (G m) : sProp 𝕄) := by
  have hX (Φ : GSem nD τ sig → sProp 𝕄) : bigSep theCells Φ = bigSep Finset.univ fun c : Dev nD => bigSep Finset.univ fun k : CI => Φ (kcell (c, k)) := by
    unfold theCells; rw [bigSep_map, bigSep_univ_prod]; rfl
  have hT : bigSep theToks (fun x => (dutyTok ER x.1 x.2.1 x.2.2 : sProp 𝕄)) = bigSep Finset.univ fun c : Dev nD => toks c := by
    unfold theToks; rw [bigSep_map, bigSep_univ_prod]
    exact bigSep_congr fun c _ => by
      unfold toks
      rw [bigSep_univ_sum, bigSep_univ_prod (fun k : Bool × T => _), bigSep_bool]
      rfl
  iintro HX
  imod (Rounds.fund ER (Rd m) theCells theToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (barCell c) 0 := by
  unfold unscopedSems0; rw [bigSep_eq_bigSepL_of_eq [SemLoc.reg barS] (by decide +kernel) (by decide)]; rfl

/-- A device's semaphores: the kernel's own and the barrier's. -/
theorem semsZero_eq (c : Dev nD) :
    (semsZero c : sProp 𝕄) = iprop(unscopedSems0 c ∗ Pipeline.ownSems0 (Ix := Unit) (Name := ℕ) (U := UU) (Lvl := ℕ) (Val := Elt F) (τ := τ) osem c) := by
  rw [unscopedSems0_eq]
  unfold semsZero Pipeline.ownSems0
  rw [bigSep_univ_at (fun k : CI => semVal (kcell (c, k)) 0) none, erase_none, bigSep_map]
  rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (semsZero_eq (F := F) c).symm) $$ [Hos Hus]
  · isplitl [Hus] <;> iassumption
  imod (show iprop(semsZero c ∗ bigSep Finset.univ fun k : CI => roundState ER (Rd m) (kcell (c, k)) 0)
      ⊢ (|={Set.univ}=> bigSep Finset.univ fun k => iprop(∃ κ : ℕ, cellInv ER (Rd m) κ (kcell (c, k))) : sProp 𝕄) from by
        unfold semsZero
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- A family over devices and names, each name's members moved along a mask of its own. -/
theorem deal {I : Type} [Fintype I] (s : I → Fin 8) (Φ : Dev nD → I → sProp 𝕄) :
    (bigSep Finset.univ fun c : Dev nD => bigSep Finset.univ fun i : I => Φ c i)
      = bigSep Finset.univ fun c : Dev nD => bigSep Finset.univ fun i : I => Φ (xr c (s i)) i := by
  rw [bigSep_univ_comm, bigSep_univ_comm (fun (c : Dev nD) (i : I) => Φ (xr c (s i)) i)]
  exact bigSep_congr fun i _ => bigSep_univ_equiv (along (s i)) fun c => Φ c i

/-- The tokens dealt to whoever pays: a barrier's to the partner along its axis, a receive cell's to the sender. -/
theorem toks_deal : (bigSep Finset.univ fun c : Dev nD => (toks c : sProp 𝕄)) = bigSep Finset.univ fun c : Dev nD => payToks c := by
  unfold toks payToks
  rw [bigSep_sep', bigSep_sep', bigSep_sep', bigSep_sep',
    deal bit (fun c j => (dutyTok ER (barCell c) 0 j : sProp 𝕄)), deal mm (fun c i => (dutyTok ER (xCell true c i) 0 0 : sProp 𝕄))]

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CI => iprop(∃ κ : ℕ, cellInv ER (Rd m) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄)), toks_deal]
  iintro ⟨HI, ⟨Hat, #HR⟩, Htok⟩
  ihave HK := (BI.bigSep_exists_pi Finset.univ (fun (ck : Dev nD × CI) (κ : ℕ) => (cellInv ER (Rd m) κ (kcell ck) : sProp 𝕄))) $$ HI
  icases HK with ⟨%K, #HI⟩
  iapply (bigSep_with_persistent (R := recs m K) (Φ := linear) (Ψ := G' m) fun c _ => by
    unfold G'
    iintro H; iexists K; iexact H)
  isplitr
  · unfold recs; isplitl; · iexact HI
    iexact HR
  · unfold linear
    rw [bigSep_sep']
    isplitl [Hat]; · iexact Hat
    iexact Htok

/-- The opening of the cells, on every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- What all devices owe a cell, each along the same mask: what one device owes it. -/
theorem owed_along (cell : Dev nD → GSem nD τ sig) (hc : Function.Injective cell) (s : Fin 8) (n : ℕ) (c : Dev nD) :
    ∑ d : Dev nD, (tallyAt (cell (xr d s)) () n : CellTallies nD τ sig Unit) (cell c) () = n := by
  refine (Equiv.sum_comp (along s) fun d => (tallyAt (cell d) () n : CellTallies nD τ sig Unit) (cell c) ()).trans ?_
  rw [Finset.sum_eq_single c (fun d _ hd => by rw [tallyAt_apply, if_neg fun h => hd (hc h.1).symm]) fun h => absurd (Finset.mem_univ c) h,
    tallyAt_apply, if_pos ⟨rfl, rfl⟩]

theorem bar_inj : Function.Injective (barCell : Dev nD → GSem nD τ sig) := fun a b h => congrArg (fun g : GSem nD τ sig => g.1.1) h
theorem x_inj (b : Bool) (i : T) : Function.Injective (fun c : Dev nD => xCell b c i) := fun a b h => congrArg (fun g : GSem nD τ sig => g.1.1) h

theorem Owed_apply (d : Dev nD) (g : GSem nD τ sig) : Owed d 0 g () = ∑ i : T, (tallyAt (xCell true (xr d (mm i)) i) () (N i.1) : CellTallies nD τ sig Unit) g () := by
  unfold Owed
  rw [Finset.sum_apply, Finsupp.finset_sum_apply]
  exact Finset.sum_congr rfl fun i _ => by rw [if_neg (Nat.not_lt_zero _)]

theorem O₀_apply (d : Dev nD) (g : GSem nD τ sig) :
    O₀ d g () = Owed d 0 g () + (tallyAt (barCell (xr d 4)) () 1 : CellTallies nD τ sig Unit) g ()
      + (tallyAt (barCell (xr d 2)) () 1 : CellTallies nD τ sig Unit) g () + (tallyAt (barCell (xr d 1)) () 1 : CellTallies nD τ sig Unit) g () := by
  unfold O₀ O₁ O₂
  rw [Pi.add_apply, Finsupp.add_apply, Pi.add_apply, Finsupp.add_apply, Pi.add_apply, Finsupp.add_apply]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  have h (d : Dev nD) : O₀ d (barCell c) () = 0 + (tallyAt (barCell (xr d 4)) () 1 : CellTallies nD τ sig Unit) (barCell c) ()
      + (tallyAt (barCell (xr d 2)) () 1 : CellTallies nD τ sig Unit) (barCell c) () + (tallyAt (barCell (xr d 1)) () 1 : CellTallies nD τ sig Unit) (barCell c) () := by
    have h0 : Owed d 0 (barCell c) () = 0 := by
      rw [Owed_apply]
      exact Finset.sum_eq_zero fun i _ => by rw [tallyAt_apply, if_neg fun h => reg_ne_dma (congrArg Prod.snd h.1)]
    rw [O₀_apply, h0]
  rw [Pipeline.launchCredit_owing, Finsupp.single_eq_same, Finset.sum_congr rfl fun d _ => h d, Finset.sum_add_distrib, Finset.sum_add_distrib, Finset.sum_add_distrib,
    owed_along barCell bar_inj, owed_along barCell bar_inj, owed_along barCell bar_inj, Finset.sum_const_zero]

theorem launch_rcv (c : Dev nD) (i : T) :
    tallyOn (xCell true c i) (launchCredit (Pipeline.owing O₀) 0 (xCell true c i)) = (tallyAt (xCell true c i) () (N i.1) : CellTallies nD τ sig Unit) := by
  unfold tallyAt; refine congrArg _ (Finsupp.ext fun u => ?_); cases u
  have hb (e : Dev nD) : (tallyAt (barCell e) () 1 : CellTallies nD τ sig Unit) (xCell true c i) () = 0 := by
    rw [tallyAt_apply, if_neg fun h => reg_ne_dma (congrArg Prod.snd h.1).symm]
  have h (d : Dev nD) : O₀ d (xCell true c i) () = ∑ j : T, (tallyAt (xCell true (xr d (mm j)) j) () (N j.1) : CellTallies nD τ sig Unit) (xCell true c i) () := by
    rw [← Owed_apply, O₀_apply]; simp only [hb, Nat.add_zero]
  rw [Pipeline.launchCredit_owing, Finsupp.single_eq_same, Finset.sum_congr rfl fun d _ => h d, Finset.sum_comm,
    Finset.sum_eq_single i (fun j _ hj => Finset.sum_eq_zero fun d _ => by
      rw [tallyAt_apply, if_neg fun h => hj (xS_inj (SemLoc.dma.inj (congrArg Prod.snd h.1))).2.symm]) fun h => absurd (Finset.mem_univ i) h]
  exact owed_along (fun c => xCell true c i) (x_inj true i) (mm i) (N i.1) c

theorem creds (c : Dev nD) : (Pipeline.launchCred O₀ c : sProp 𝕄) ⊢ credits c := by
  have h : (Pipeline.launchCred O₀ c : sProp 𝕄)
      ⊢ bigSep Finset.univ fun k : CI => cred (tallyOn (kcell (c, k)) (launchCredit (Pipeline.owing O₀) 0 (kcell (c, k)))) := by
    unfold Pipeline.launchCred
    refine BIBase.Entails.trans (bigSep_subset (Finset.subset_univ (Finset.univ.map ⟨csem, csem_injective⟩))) (Entails.of_eq ?_)
    rw [bigSep_map]; rfl
  refine BIBase.Entails.trans h ?_
  unfold credits
  rw [bigSep_CI]
  iintro ⟨HB, -, HR⟩
  isplitl [HB]
  · rw [← launch_bar c]; iexact HB
  · iapply (show (bigSep Finset.univ fun i : T => cred (tallyOn (xCell true c i) (launchCredit (Pipeline.owing O₀) 0 (xCell true c i))))
        ⊢ (bigSep Finset.univ fun i : T => cred (tallyAt (xCell true c i) () (N i.1)) : sProp 𝕄) from
      Entails.of_eq (bigSep_congr fun i _ => by rw [launch_rcv]))
    iexact HR

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold G' recs linear
  iintro ⟨-, Hlev, Hcr, -, ⟨%K, ⟨HI, HR⟩, Hat, Htok⟩⟩
  ihave Hc := (creds (F := F) c) $$ Hcr
  imodintro
  unfold start ghost records
  isplitl
  · isplitr [Hc]
    · iexists K
      isplitl [HI HR Hlev]
      · isplitl [HI]; · iexact HI
        isplitl [HR] <;> iassumption
      isplitl [Hat] <;> iassumption
    · iexact Hc
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl]
  unfold Φ₁
  rw [semsZero_eq]
  iintro ⟨⟨Hu, Ho⟩, Hr⟩
  isplitl [Hu]; · iexact Hu
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What a window's array holds after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values and from any memory with its counters at zero: every weakly fair execution of the eight
    devices terminates, every final state has each device's arrays at `finalA`, and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Exchange

end
-- ==== Proof.Reference.lean ====
/-
# The reference's result, index by index

The reference multiplies the whole arguments and applies the tanh form of the gelu to every entry.
-/
module

public import proofs.«01_k».proof.Proof.Gen.ReferenceIdeal.Run
public import Idealize.ShloMosaic.Lib.Pointwise

@[expose] public section

noncomputable section

namespace Cert.Reference

open Cert.ReferenceIdeal Cert.ReferenceIdeal.Gen
open Idealize.ShloMosaic Idealize.ShloMosaic.TcCoe

/-- The reference's epilogue on one number. -/
def gelu (y : EReal) : EReal :=
  Ideal.ofBits .f32 0x3F000000#32 * y
    * (Ideal.ofBits .f32 0x3F800000#32 + Ideal.tanh (Ideal.ofBits .f32 0x3F4C422A#32 * (y + Ideal.ofBits .f32 0x3D372713#32 * (y * y * y))))

/-- The reference's product at an index. -/
def whole (X W : S1024x1024.Idx → EReal) (r n : Fin 1024) : EReal := ∑ k : Fin 1024, X (ix2 r k) * W (ix2 k n)

/-- The reference's result, from the whole arguments. -/
def refOut (X W : FVec Ideal S1024x1024 .f32) : FVec Ideal S1024x1024 .f32 :=
  fun i => gelu (whole X W (i 0) (i 1))

/-- The reference's composed term is that. -/
theorem ref_value (X W : FVec Ideal S1024x1024 .f32) :
    mulf (mulf (broadcastInDim S1024x1024 ![] bcast_S_S1024x1024 (constant S_ .f32 0x3F000000#32)) (Host.dotGeneral dot_S1024x1024_S1024x1024_S1024x1024_1_0_0_1_n_n none X W))
      (addf (broadcastInDim S1024x1024 ![] bcast_S_S1024x1024 (constant S_ .f32 0x3F800000#32)) (Host.tanh (mulf (broadcastInDim S1024x1024 ![] bcast_S_S1024x1024 (constant S_ .f32 0x3F4C422A#32))
        (addf (Host.dotGeneral dot_S1024x1024_S1024x1024_S1024x1024_1_0_0_1_n_n none X W) (mulf (broadcastInDim S1024x1024 ![] bcast_S_S1024x1024 (constant S_ .f32 0x3D372713#32))
          (mulf (mulf (Host.dotGeneral dot_S1024x1024_S1024x1024_S1024x1024_1_0_0_1_n_n none X W) (Host.dotGeneral dot_S1024x1024_S1024x1024_S1024x1024_1_0_0_1_n_n none X W))
            (Host.dotGeneral dot_S1024x1024_S1024x1024_S1024x1024_1_0_0_1_n_n none X W)))))))
      = refOut X W := by
  have hY (i : S1024x1024.Idx) : (Host.dotGeneral dot_S1024x1024_S1024x1024_S1024x1024_1_0_0_1_n_n none X W : FVec Ideal S1024x1024 .f32) i = whole X W (i 0) (i 1) := by
    simp only [pointwise]
    exact zero_add _
  generalize (Host.dotGeneral dot_S1024x1024_S1024x1024_S1024x1024_1_0_0_1_n_n none X W : FVec Ideal S1024x1024 .f32) = Y at hY ⊢
  funext i
  show gelu (Y i) = gelu _
  rw [hY]

end Cert.Reference

end
-- ==== Proof.Value.lean ====
/-
# The value: what the result array holds in exact arithmetic

A row chunk that has been through its three exchanges holds the sum of the partial products of all eight devices;
that sum is the product of the whole arguments, and the epilogue is the reference's.
-/
module

public import proofs.«01_k».proof.Proof.Launch
public import proofs.«01_k».proof.Proof.Reference
public import Idealize.ShloMosaic.Lib.Pipeline.Value
public import Idealize.ShloMosaic.Lib.Pointwise
public import Idealize.ShloMosaic.Lib.Layout

@[expose] public section

set_option backward.proofsInPublic true

noncomputable section

namespace Cert.Exchange

open Cert.KernelIdeal Cert.KernelIdeal.Gen
open Cert.Reference (gelu whole refOut)

open Idealize.ShloMosaic
open Idealize.ShloMosaic.TcCoe
open Idealize.SL.Sem
open Idealize.ShloMosaic.Pipeline (Dat Cfg Window)

/-! ## The arrays at the end of the run, over any float values -/

section Any

variable {F : FTy → Type} [FloatOps F]
variable (m : (ℓ : Loc nD τ sig) → Buf (Elt F) ℓ) (ρ : Dev nD → PrngReg)

/-- The staged block of the first argument is the argument. -/
theorem xst_eq (c : Dev nD) : xst m c = m ((c : Thread nD τ).loc main_arg0) := by
  funext j
  refine congrArg (m ((c : Thread nD τ).loc main_arg0)) (funext fun a => Fin.ext ?_)
  match a with
  | ⟨0, _⟩ => show 0 + 1 * (j 0).val = (j 0).val; omega
  | ⟨1, _⟩ => show 0 + 1 * (j 1).val = (j 1).val; omega

/-- The staged block of the second argument is the argument. -/
theorem wst_eq (c : Dev nD) : wst m c = m ((c : Thread nD τ).loc main_arg1) := by
  funext j
  refine congrArg (m ((c : Thread nD τ).loc main_arg1)) (funext fun a => Fin.ext ?_)
  match a with
  | ⟨0, _⟩ => show 0 + 1 * (j 0).val = (j 0).val; omega
  | ⟨1, _⟩ => show 0 + 1 * (j 1).val = (j 1).val; omega

/-- The first argument's array is what it was. -/
theorem finalA_x (c : Dev nD) : finalA m ρ c (0 : Fin 3) = m ((c : Thread nD τ).loc main_arg0) :=
  (dats m ρ 0 c).arrAt_in (0 : Fin 3) rfl _

/-- The second argument's array is what it was. -/
theorem finalA_w (c : Dev nD) : finalA m ρ c (1 : Fin 3) = m ((c : Thread nD τ).loc main_arg1) :=
  (dats m ρ 0 c).arrAt_in (1 : Fin 3) rfl _

/-- The result's one block is the whole array. -/
theorem out_emb (j : S128x1024.Idx) : (win0_2.rect t0_0).emb j = j := by
  funext a; apply Fin.ext
  match a with
  | ⟨0, _⟩ => show 0 + 1 * (j 0).val = (j 0).val; omega
  | ⟨1, _⟩ => show 0 + 1 * (j 1).val = (j 1).val; omega

theorem out_flushed (c : Dev nD) (t : Fin cfg0.N) :
    (dats m ρ 0 c).flushed (2 : Fin 3) t = ((cfg0.win (2 : Fin 3)).blk t).view.read (Elt F) (outAt m c) := by
  obtain rfl := fin_N0 t
  funext j
  show outAt m c _ = outAt m c _
  refine congrArg (outAt m c) (funext fun a => Fin.ext ?_)
  match a with
  | ⟨0, _⟩ => show (j 0).val = 0 + 1 * (j 0).val; omega
  | ⟨1, _⟩ => show (j 1).val = 0 + 1 * (j 1).val; omega

theorem out_cover (i : S128x1024.Idx) : ∃ t : Fin cfg0.N, (cfg0.win (2 : Fin 3)).flush t = true ∧ i ∈ ((cfg0.win (2 : Fin 3)).blk t).view.set := by
  refine ⟨t0_0, flush0_2 _, ?_⟩
  show i ∈ ((View.whole main_v1).slice (win0_2.rect t0_0)).set
  rw [View.set_slice_whole, ← Rect.map_emb_univ]
  exact Finset.mem_map.mpr ⟨i, Finset.mem_univ _, out_emb i⟩

/-- The result's array ends at the body's result. -/
theorem finalA_out (c : Dev nD) : finalA m ρ c (2 : Fin 3) = outAt m c :=
  (dats m ρ 0 c).arrAt_eq_of_cover (2 : Fin 3) (outAt m c) (fun t _ => out_flushed m ρ c t) out_cover

/-- The run keeps both arguments on every device and ends with every semaphore at zero. -/
theorem run_frame : θ_run (defs (F := F)) (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨(h.1 c (0 : Fin 3)).trans (finalA_x m ρ c), (h.1 c (1 : Fin 3)).trans (finalA_w m ρ c)⟩, h.2⟩)
    (run_main m ρ)

end Any

/-! ## Exact arithmetic -/

variable (m : (ℓ : Loc nD τ sig) → Buf (Elt Ideal) ℓ)

/-- After three exchanges a chunk is the sum of all eight devices' partial products. -/
theorem Ac_three (g : Fin 3) (c r : Dev nD) (j : (Sc g).Idx) :
    (Ac m g 3 c r j : EReal) = ∑ e : Dev nD, (prod m e g ((rowR g r).emb j) : EReal) := by
  have hbij : Function.Bijective (fun s : Fin 8 => xr c s) := ⟨fun s t h => xr_inj c s t h, fun e => xr_surj c e⟩
  rw [← Function.Bijective.sum_comp hbij (fun e => (prod m e g ((rowR g r).emb j) : EReal)), Fin.sum_univ_eight]
  have h1 (t : ℕ) (d : Dev nD) : (Ac m g (t + 1) d r j : EReal) = Ac m g t d r j + Ac m g t (xr d (mk g t)) r j := rfl
  have h0 (d : Dev nD) : (Ac m g 0 d r j : EReal) = prod m d g ((rowR g r).emb j) := rfl
  rw [h1 2, h1 1, h1 1, h1 0, h1 0, h1 0, h1 0]
  simp only [h0, xr_xr, xr_zero]
  match g with
  | 0 =>
    show (prod m c 0 _ : EReal) + prod m (xr c 4) 0 _ + (prod m (xr c 2) 0 _ + prod m (xr c 6) 0 _)
      + (prod m (xr c 1) 0 _ + prod m (xr c 5) 0 _ + (prod m (xr c 3) 0 _ + prod m (xr c 7) 0 _)) = _
    abel
  | 1 =>
    show (prod m c 1 _ : EReal) + prod m (xr c 2) 1 _ + (prod m (xr c 1) 1 _ + prod m (xr c 3) 1 _)
      + (prod m (xr c 4) 1 _ + prod m (xr c 6) 1 _ + (prod m (xr c 5) 1 _ + prod m (xr c 7) 1 _)) = _
    abel
  | 2 =>
    show (prod m c 2 _ : EReal) + prod m (xr c 1) 2 _ + (prod m (xr c 4) 2 _ + prod m (xr c 5) 2 _)
      + (prod m (xr c 2) 2 _ + prod m (xr c 3) 2 _ + (prod m (xr c 6) 2 _ + prod m (xr c 7) 2 _)) = _
    abel

/-- A device's partial product at an index: the sum over the device's 128 columns of `x` and rows of `w_mat`. -/
theorem prod_apply (e : Dev nD) (g : Fin 3) (i : (Sa g).Idx) (r : Fin 1024) (n : Fin 1024) (hr : (i 0).val = r.val)
    (hn : off g + (i 1).val = n.val) :
    (prod m e g i : EReal) = ∑ k : Fin 128, (xst m e (ix2 r k) : EReal) * (wst m e (ix2 k n) : EReal) := by
  have hx (k : Fin 128) (q : S1024x128.Idx) (h0 : (q 0).val = r.val) (h1 : (q 1).val = k.val) : q = ix2 r k :=
    funext fun a => Fin.ext (match a with | ⟨0, _⟩ => h0 | ⟨1, _⟩ => h1)
  have hw (k : Fin 128) (q : S128x1024.Idx) (h0 : (q 0).val = k.val) (h1 : (q 1).val = n.val) : q = ix2 k n :=
    funext fun a => Fin.ext (match a with | ⟨0, _⟩ => h0 | ⟨1, _⟩ => h1)
  have close (g : Fin 3) (i : (Sa g).Idx) (hr : (i 0).val = r.val) (hn : off g + (i 1).val = n.val) (z : EReal) (hz : z = 0)
      (w : (Sc g).Idx → EReal) (hw' : w = wcol m e g) :
      z + ∑ k : Fin 128, (xst m e (ix2 (i 0) k) : EReal) * w (ix2 k (i 1))
        = ∑ k : Fin 128, (xst m e (ix2 r k) : EReal) * (wst m e (ix2 k n) : EReal) := by
    subst hz hw'
    refine (zero_add _).trans (Finset.sum_congr rfl fun k _ => congrArg₂ (· * ·) (congrArg (xst m e) (hx k _ hr rfl)) ?_)
    refine congrArg (wst m e) (hw k _ ?_ ?_)
    · show 0 + 1 * k.val = k.val; omega
    · show off g + 1 * (i 1).val = n.val; omega
  match g with
  | 0 =>
    show k0_pay2 (k0_pay1 (xst m e)) (wcol m e 0) i = _
    simp only [k0_pay2, k0_pay1, shapeCast_self]
    simp only [pointwise]
    exact close 0 i hr hn _ Ideal.ofBits_zero_f32 _ (shapeCast_self _ _)
  | 1 =>
    show k0_pay3 (xst m e) (wcol m e 1) i = _
    simp only [k0_pay3, shapeCast_self]
    simp only [pointwise]
    exact close 1 i hr hn _ Ideal.ofBits_zero_f32 _ (shapeCast_self _ _)
  | 2 =>
    show k0_pay4 (xst m e) (wcol m e 2) i = _
    simp only [k0_pay4, shapeCast_self]
    simp only [pointwise]
    exact close 2 i hr hn _ Ideal.ofBits_zero_f32 _ (shapeCast_self _ _)

/-- The kernel's epilogue is the reference's: the cube is multiplied in another order. -/
theorem outG_apply (c : Dev nD) (g : Fin 3) (j : (Sc g).Idx) : (outG m c g j : EReal) = gelu (Ac m g 3 c c j) := by
  have close (y : EReal) : Ideal.ofBits .f32 0x3F000000#32 * y
      * (Ideal.ofBits .f32 0x3F800000#32 + Ideal.tanh (Ideal.ofBits .f32 0x3F4C422A#32 * (y + Ideal.ofBits .f32 0x3D372713#32 * y * y * y))) = gelu y := by
    unfold gelu; rw [mul_assoc (Ideal.ofBits .f32 0x3D372713#32), mul_assoc (Ideal.ofBits .f32 0x3D372713#32)]
  match g with
  | 0 =>
    show k0_pay30 (k0_pay27 (Ac m 0 3 c (xr c 0))) (k0_pay28 (Ac m 0 3 c (xr c 0))) k0_pay29 j = _
    rw [xr_zero]
    exact close (Ac m 0 3 c c j)
  | 1 =>
    show k0_pay33 (Ac m 1 3 c (xr c 0)) j = _
    rw [xr_zero]
    exact close (Ac m 1 3 c c j)
  | 2 =>
    show k0_pay35 (Ac m 2 3 c (xr c 0)) j = _
    rw [xr_zero]
    exact close (Ac m 2 3 c c j)

/-! ## The sum is the reference's -/

/-- The devices' 128 columns and rows together are all 1024: the sum of the partial products is the whole product. -/
theorem sum_prod (X W : Cert.ReferenceIdeal.S1024x1024.Idx → EReal)
    (hx : ∀ e : Dev nD, (m ((e : Thread nD τ).loc main_arg0) : S1024x128.Idx → EReal) = Layout.block ⟨2, ![1024, 128]⟩ ⟨2, ![1024, 1024]⟩ 1 8 e X)
    (hw : ∀ e : Dev nD, (m ((e : Thread nD τ).loc main_arg1) : S128x1024.Idx → EReal) = Layout.block ⟨2, ![128, 1024]⟩ ⟨2, ![1024, 1024]⟩ 0 8 e W)
    (g : Fin 3) (i : (Sa g).Idx) (r n : Fin 1024) (hr : (i 0).val = r.val) (hn : off g + (i 1).val = n.val) :
    ∑ e : Dev nD, (prod m e g i : EReal) = whole X W r n := by
  unfold whole
  rw [Fin.sum_univ_tiles 8 128 rfl]
  refine Finset.sum_congr rfl fun e _ => (prod_apply m e g i r n hr hn).trans (Finset.sum_congr rfl fun k _ => ?_)
  rw [xst_eq, wst_eq]
  refine congrArg₂ (· * ·) ((congrFun (hx e) _).trans (congrArg X ?_)) ((congrFun (hw e) _).trans (congrArg W ?_))
  · exact funext fun a => Fin.ext (match a with | ⟨0, _⟩ => rfl | ⟨1, _⟩ => rfl)
  · exact funext fun a => Fin.ext (match a with | ⟨0, _⟩ => rfl | ⟨1, _⟩ => rfl)

/-- The result of device `c` is its block of the reference's. -/
theorem out_value (X W : Cert.ReferenceIdeal.S1024x1024.Idx → EReal)
    (hx : ∀ e : Dev nD, (m ((e : Thread nD τ).loc main_arg0) : S1024x128.Idx → EReal) = Layout.block ⟨2, ![1024, 128]⟩ ⟨2, ![1024, 1024]⟩ 1 8 e X)
    (hw : ∀ e : Dev nD, (m ((e : Thread nD τ).loc main_arg1) : S128x1024.Idx → EReal) = Layout.block ⟨2, ![128, 1024]⟩ ⟨2, ![1024, 1024]⟩ 0 8 e W)
    (c : Dev nD) : outAt m c = Layout.block ⟨2, ![128, 1024]⟩ ⟨2, ![1024, 1024]⟩ 0 8 c (refOut X W) := by
  refine (out_all m c _ fun g => funext fun j => ?_).symm
  refine Eq.trans ?_ (outG_apply m c g j).symm
  rw [Ac_three]
  refine congrArg gelu (sum_prod m X W hx hw g _ _ _ ?_ ?_).symm
  · show 128 * c.val + 1 * (j 0).val = c.val * 128 + (0 + 1 * (j 0).val); omega
  · show off g + (0 + 1 * (j 1).val) = off g + 1 * (j 1).val; omega

end Cert.Exchange

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

section Text

variable {F : FTy → Type} [FloatOps F]

/-- The two programs' kernel bodies are one text, -/
theorem body_eq : Cert.Kernel.cc0_reorder (F := F) = Cert.KernelIdeal.cc0_reorder (F := F) := rfl

/-- hence their body tables, -/
theorem defs₀_eq : Cert.Kernel.defs₀ (F := F) = Cert.KernelIdeal.defs₀ (F := F) :=
  congrArg Defs.onTc (funext fun l => funext fun a => match l, a with
    | 0, (t, s) => by dsimp only; rw [body_eq])

/-- and the tables with the pipelines' regions. -/
theorem defs_eq : Cert.Kernel.defs (F := F) = Cert.KernelIdeal.defs (F := F) :=
  congrArg (Pipeline.defs (Cert.KernelIdeal.pcfgs (F := F))) defs₀_eq

end Text

/-- `Cert.quiescent_Kernel`: the exchange's run at the bit-exact values (Proof/Value.lean `run_frame`) keeps both
    arguments and ends with every semaphore at zero; the two programs are one text. -/
theorem frame_kernel : Cert.quiescent_Kernel := fun m ρ _ =>
  (congrArg (fun d => θ_run d (onTc (τ := Cert.Kernel.τ) (Cert.Kernel.main (F := Bits))) ⟨m, fun _ => 0, ρ⟩ _) defs_eq).mpr
    (Cert.Exchange.run_frame (F := Bits) m ρ)

/-- `Cert.quiescent_KernelIdeal`: the same run in exact arithmetic. -/
theorem frame_kernelIdeal : Cert.quiescent_KernelIdeal := fun m ρ _ => Cert.Exchange.run_frame (F := Ideal) m ρ

/-- `Cert.quiescent_ReferenceIdeal`: the reference is a straight line of host operations and declares no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel read in exact arithmetic is the kernel: nothing was rewritten. -/
theorem preserves_kernel : Cert.preserves_Kernel_KernelIdeal := trivial

/-- `Cert.algebraic_KernelIdeal_ReferenceIdeal`: every device's result is its block of rows of the reference's
    (Proof/Value.lean `out_value`, Proof/Reference.lean `ref_value`). -/
theorem algebraic_kernel : Cert.algebraic_KernelIdeal_ReferenceIdeal := fun m g m' g' _ hag =>
  ⟨Cert.Reference.refOut _ _,
    (θ_run Cert.KernelIdeal.defs _ _).mono (fun _ h c =>
      ⟨(h.1 c (2 : Fin 3)).trans ((Cert.Exchange.finalA_out m g c).trans
          (Cert.Exchange.out_value m _ _ (fun e => (hag e).1) (fun e => (hag e).2) c)),
        (h.1 c (0 : Fin 3)).trans (Cert.Exchange.finalA_x m g c), (h.1 c (1 : Fin 3)).trans (Cert.Exchange.finalA_w m g c)⟩)
      (Cert.Exchange.run_main (F := Ideal) m g),
    (θ_run Cert.ReferenceIdeal.defs _ _).mono (fun _ h => ⟨(h 0).1.trans (Cert.Reference.ref_value _ _), (h 0).2⟩)
      (Cert.ReferenceIdeal.Value.run (F := Ideal) m' g')⟩

/-- Everything the certificate claims. -/
theorem claim : Cert.Claim := ⟨Cert.Kernel.Gen.facts, Cert.KernelIdeal.Gen.facts, Cert.ReferenceIdeal.Gen.facts,
  frame_kernel, frame_kernelIdeal, frame_referenceIdeal, preserves_kernel, algebraic_kernel⟩

end Cert.Proof

end
